-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S320000x128 : Shape := ⟨2, ![320000, 128]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel

variable [Facts]

def fn {F : FTy → Type} [FloatOps F] (main_arg0 : FVec F S10000x128 .f32) (main_arg1 : IVec S320000x128 32) (main_arg2 : FVec F S320000x128 .f32) : IVec S_ 1 :=
  let main_c : IVec S_ 32 := constantI S_ 32 0#32
  let main_v0 : IVec S320000x128 32 := broadcastInDim S320000x128 ![] bcast_S_S320000x128 main_c
  let main_v1 : IVec S320000x128 1 := cmpi .sge main_arg1 main_v0
  let main_c_0 : IVec S_ 32 := constantI S_ 32 10000#32
  let main_v2 : IVec S320000x128 32 := broadcastInDim S320000x128 ![] bcast_S_S320000x128 main_c_0
  let main_v3 : IVec S320000x128 1 := cmpi .slt main_arg1 main_v2
  let main_v4 : IVec S320000x128 1 := andi main_v1 main_v3
  let main_c_1 : IVec S_ 1 := constantI S_ 1 1#1
  let main_v5 : IVec S_ 1 := (fun x v => Host.reduce IntOp.andi x v reducesTo_S320000x128_S_d0_1 h_S_) main_v4 main_c_1
  main_v5
-- ==== Kernel.lean ====
abbrev S10000x128 : Shape := ⟨2, ![10000, 128]⟩
abbrev S320000x128 : Shape := ⟨2, ![320000, 128]⟩
abbrev S128x10000 : Shape := ⟨2, ![128, 10000]⟩
abbrev S80000 : Shape := ⟨1, ![80000]⟩
abbrev S500x8 : Shape := ⟨2, ![500, 8]⟩
abbrev S_ : Shape := ⟨0, ![]⟩
abbrev S16 : Shape := ⟨1, ![16]⟩
abbrev S250x8 : Shape := ⟨2, ![250, 8]⟩
abbrev S10000 : Shape := ⟨1, ![10000]⟩
abbrev S1x10000 : Shape := ⟨2, ![1, 10000]⟩

abbrev nBuf : Table → Nat
  | .hbm => 6
  | .local .tc .vmem => 4
  | .local .scVector .vmem => 9
  | _ => 0

abbrev bufTy : (tb : Table) → Fin (nBuf tb) → BufTy
  | .hbm, ⟨0, _⟩ => ⟨S10000x128, .f32⟩
  | .hbm, ⟨1, _⟩ => ⟨S320000x128, .i32⟩
  | .hbm, ⟨2, _⟩ => ⟨S320000x128, .f32⟩
  | .hbm, ⟨3, _⟩ => ⟨S128x10000, .f32⟩
  | .hbm, ⟨4, _⟩ => ⟨S128x10000, .f32⟩
  | .hbm, ⟨5, _⟩ => ⟨S10000x128, .f32⟩
  | .local .tc .vmem, ⟨0, _⟩ => ⟨S128x10000, .f32⟩
  | .local .tc .vmem, ⟨1, _⟩ => ⟨S128x10000, .f32⟩
  | .local .tc .vmem, ⟨2, _⟩ => ⟨S10000x128, .f32⟩
  | .local .tc .vmem, ⟨3, _⟩ => ⟨S10000x128, .f32⟩
  | .local .scVector .vmem, ⟨0, _⟩ => ⟨S80000, .f32⟩
  | .local .scVector .vmem, ⟨1, _⟩ => ⟨S500x8, .i32⟩
  | .local .scVector .vmem, ⟨2, _⟩ => ⟨S500x8, .i32⟩
  | .local .scVector .vmem, ⟨3, _⟩ => ⟨S500x8, .i32⟩
  | .local .scVector .vmem, ⟨4, _⟩ => ⟨S500x8, .i32⟩
  | .local .scVector .vmem, ⟨5, _⟩ => ⟨S500x8, .f32⟩
  | .local .scVector .vmem, ⟨6, _⟩ => ⟨S500x8, .f32⟩
  | .local .scVector .vmem, ⟨7, _⟩ => ⟨S500x8, .f32⟩
  | .local .scVector .vmem, ⟨8, _⟩ => ⟨S500x8, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 24
abbrev cc1_sem1_0 : DmaSem sig := 25
abbrev cc1_sem2_0 : DmaSem sig := 26
abbrev cc1_sem3_0 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c5000_i32 : BitVec 32 := 5000#32
  let v32 : BitVec 32 := Scalar.addi c0_i32_13 c5000_i32
  let c1_i32_14 : BitVec 32 := 1#32
  ⟨c0_i32_13, v32, c1_i32_14⟩
def k0_off1 (k0_t1 : Fin k0_t1_loop.trips) : Fin 1 → Nat :=
  let c0_i32_13 : BitVec 32 := 0#32
  let c1_i32_14 : BitVec 32 := 1#32
  let arg23 : BitVec 32 := Scf.iv c0_i32_13 c1_i32_14 k0_t1
  let c16_i32 : BitVec 32 := 16#32
  let v165 : BitVec 32 := Scalar.muli arg23 c16_i32
  let v166 : Index := Scalar.indexCast v165
  ![v166.toNat]
def k0_off2 (i : grid0.Coords) (c0_i32_29 : BitVec 32) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c500_i32 : BitVec 32 := 500#32
  let v77 : BitVec 32 := Scalar.muli c0_i32_29 c500_i32
  let v78 : BitVec 32 := Scalar.addi v30 v77
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v78.toNat, v29.toNat]
def k0_off3 (i : grid0.Coords) (c0_i32_29 : BitVec 32) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c500_i32 : BitVec 32 := 500#32
  let v77 : BitVec 32 := Scalar.muli c0_i32_29 c500_i32
  let v78 : BitVec 32 := Scalar.addi v30 v77
  let c250_i32 : BitVec 32 := 250#32
  let v83 : BitVec 32 := Scalar.addi v78 c250_i32
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v83.toNat, v29.toNat]
@[reducible] def k0_t2_loop : Scf.Loop 32 :=
  let c0_i32_106 : BitVec 32 := 0#32
  let c80_i32 : BitVec 32 := 80#32
  let v157 : BitVec 32 := Scalar.addi c0_i32_106 c80_i32
  let c1_i32_107 : BitVec 32 := 1#32
  ⟨c0_i32_106, v157, c1_i32_107⟩
def k0_off4 (i : grid0.Coords) : Fin 2 → Nat :=
  let c0_i32_115 : BitVec 32 := 0#32
  let arg0 : BitVec 32 := BitVec.ofNat 32 (i 0).val
  let c8_i32_10 : BitVec 32 := 8#32
  let v27 : BitVec 32 := Scalar.muli arg0 c8_i32_10
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![0, v29.toNat]
@[reducible] def k0_t3_loop : Scf.Loop 32 :=
  let c0_i32_137 : BitVec 32 := 0#32
  let c250_i32_138 : BitVec 32 := 250#32
  let v182 : BitVec 32 := Scalar.addi c0_i32_137 c250_i32_138
  let c1_i32_139 : BitVec 32 := 1#32
  ⟨c0_i32_137, v182, c1_i32_139⟩

def k0_chk1 (v50 : IVec S16 32) (v258 : IVec S16 32) : Prop :=
  (∀ a x, ((![v258, v50] : Fin 2 → IVec S16 32) a x).toNat < S500x8.size a) ∧
  (∀ a x, ((![v258, v50] : Fin 2 → IVec S16 32) a x).toNat < S500x8.size a)
theorem k0_idx1_inb : ∀ (v50 : IVec S16 32) (v258 : IVec S16 32) (k0_hw1 : k0_chk1 v50 v258), ∀ a x, ((![v258, v50] : Fin 2 → IVec S16 32) a x).toNat < S500x8.size a := fun v50 v258 k0_hw1 => k0_hw1.1
theorem k0_idx2_inb : ∀ (v50 : IVec S16 32) (v258 : IVec S16 32) (k0_hw1 : k0_chk1 v50 v258), ∀ a x, ((![v258, v50] : Fin 2 → IVec S16 32) a x).toNat < S500x8.size a := fun v50 v258 k0_hw1 => k0_hw1.2

def k0_chk2 (v261 : IVec S16 32) : Prop :=
  (∀ a x, ((![v261] : Fin 1 → IVec S16 32) a x).toNat < S80000.size a)
theorem k0_idx3_inb : ∀ (v261 : IVec S16 32) (k0_hw2 : k0_chk2 v261), ∀ a x, ((![v261] : Fin 1 → IVec S16 32) a x).toNat < S80000.size a := fun v261 k0_hw2 => k0_hw2
def k0_cond1 (k0_t2 : Fin k0_t2_loop.trips) : BitVec 1 :=
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c0_i32_141 : BitVec 32 := 0#32
  let v183 : BitVec 32 := Scalar.addi v165 c0_i32_141
  let c4_i32_142 : BitVec 32 := 4#32
  let v184 : BitVec 32 := Scalar.addi v183 c4_i32_142
  let c320_i32 : BitVec 32 := 320#32
  let v185 : BitVec 1 := Scalar.cmpi .slt v184 c320_i32
  let v186 : BitVec 32 := Scalar.extui v185
  let c0_i32_143 : BitVec 32 := 0#32
  let v187 : BitVec 1 := Scalar.cmpi .ne v186 c0_i32_143
  v187

def k0_off5 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c0_i32_241 : BitVec 32 := 0#32
  let v254 : BitVec 32 := Scalar.addi v165 c0_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v257.toNat, v29.toNat]
def k0_off6 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c0_i32_241 : BitVec 32 := 0#32
  let v254 : BitVec 32 := Scalar.addi v165 c0_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let c250_i32_248 : BitVec 32 := 250#32
  let v262 : BitVec 32 := Scalar.addi v257 c250_i32_248
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v262.toNat, v29.toNat]
def k0_off7 (i : grid0.Coords) : Fin 2 → Nat :=
  let c0_i32_146 : BitVec 32 := 0#32
  let arg0 : BitVec 32 := BitVec.ofNat 32 (i 0).val
  let c8_i32_10 : BitVec 32 := 8#32
  let v27 : BitVec 32 := Scalar.muli arg0 c8_i32_10
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![0, v29.toNat]
@[reducible] def k0_t4_loop : Scf.Loop 32 :=
  let c0_i32_168 : BitVec 32 := 0#32
  let c250_i32_169 : BitVec 32 := 250#32
  let v204 : BitVec 32 := Scalar.addi c0_i32_168 c250_i32_169
  let c1_i32_170 : BitVec 32 := 1#32
  ⟨c0_i32_168, v204, c1_i32_170⟩

def k0_chk3 (v50 : IVec S16 32) (v258 : IVec S16 32) : Prop :=
  (∀ a x, ((![v258, v50] : Fin 2 → IVec S16 32) a x).toNat < S500x8.size a) ∧
  (∀ a x, ((![v258, v50] : Fin 2 → IVec S16 32) a x).toNat < S500x8.size a)
theorem k0_idx4_inb : ∀ (v50 : IVec S16 32) (v258 : IVec S16 32) (k0_hw3 : k0_chk3 v50 v258), ∀ a x, ((![v258, v50] : Fin 2 → IVec S16 32) a x).toNat < S500x8.size a := fun v50 v258 k0_hw3 => k0_hw3.1
theorem k0_idx5_inb : ∀ (v50 : IVec S16 32) (v258 : IVec S16 32) (k0_hw3 : k0_chk3 v50 v258), ∀ a x, ((![v258, v50] : Fin 2 → IVec S16 32) a x).toNat < S500x8.size a := fun v50 v258 k0_hw3 => k0_hw3.2

def k0_chk4 (v261 : IVec S16 32) : Prop :=
  (∀ a x, ((![v261] : Fin 1 → IVec S16 32) a x).toNat < S80000.size a)
theorem k0_idx6_inb : ∀ (v261 : IVec S16 32) (k0_hw4 : k0_chk4 v261), ∀ a x, ((![v261] : Fin 1 → IVec S16 32) a x).toNat < S80000.size a := fun v261 k0_hw4 => k0_hw4
def k0_cond2 (k0_t2 : Fin k0_t2_loop.trips) : BitVec 1 :=
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c1_i32_172 : BitVec 32 := 1#32
  let v205 : BitVec 32 := Scalar.addi v165 c1_i32_172
  let c4_i32_173 : BitVec 32 := 4#32
  let v206 : BitVec 32 := Scalar.addi v205 c4_i32_173
  let c320_i32_174 : BitVec 32 := 320#32
  let v207 : BitVec 1 := Scalar.cmpi .slt v206 c320_i32_174
  let v208 : BitVec 32 := Scalar.extui v207
  let c0_i32_175 : BitVec 32 := 0#32
  let v209 : BitVec 1 := Scalar.cmpi .ne v208 c0_i32_175
  v209

def k0_off8 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c1_i32_241 : BitVec 32 := 1#32
  let v254 : BitVec 32 := Scalar.addi v165 c1_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v257.toNat, v29.toNat]
def k0_off9 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c1_i32_241 : BitVec 32 := 1#32
  let v254 : BitVec 32 := Scalar.addi v165 c1_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let c250_i32_248 : BitVec 32 := 250#32
  let v262 : BitVec 32 := Scalar.addi v257 c250_i32_248
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v262.toNat, v29.toNat]
@[reducible] def k0_t5_loop : Scf.Loop 32 :=
  let c0_i32_200 : BitVec 32 := 0#32
  let c250_i32_201 : BitVec 32 := 250#32
  let v226 : BitVec 32 := Scalar.addi c0_i32_200 c250_i32_201
  let c1_i32_202 : BitVec 32 := 1#32
  ⟨c0_i32_200, v226, c1_i32_202⟩

def k0_chk5 (v50 : IVec S16 32) (v258 : IVec S16 32) : Prop :=
  (∀ a x, ((![v258, v50] : Fin 2 → IVec S16 32) a x).toNat < S500x8.size a) ∧
  (∀ a x, ((![v258, v50] : Fin 2 → IVec S16 32) a x).toNat < S500x8.size a)
theorem k0_idx7_inb : ∀ (v50 : IVec S16 32) (v258 : IVec S16 32) (k0_hw5 : k0_chk5 v50 v258), ∀ a x, ((![v258, v50] : Fin 2 → IVec S16 32) a x).toNat < S500x8.size a := fun v50 v258 k0_hw5 => k0_hw5.1
theorem k0_idx8_inb : ∀ (v50 : IVec S16 32) (v258 : IVec S16 32) (k0_hw5 : k0_chk5 v50 v258), ∀ a x, ((![v258, v50] : Fin 2 → IVec S16 32) a x).toNat < S500x8.size a := fun v50 v258 k0_hw5 => k0_hw5.2

def k0_chk6 (v261 : IVec S16 32) : Prop :=
  (∀ a x, ((![v261] : Fin 1 → IVec S16 32) a x).toNat < S80000.size a)
theorem k0_idx9_inb : ∀ (v261 : IVec S16 32) (k0_hw6 : k0_chk6 v261), ∀ a x, ((![v261] : Fin 1 → IVec S16 32) a x).toNat < S80000.size a := fun v261 k0_hw6 => k0_hw6
def k0_cond3 (k0_t2 : Fin k0_t2_loop.trips) : BitVec 1 :=
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c2_i32_204 : BitVec 32 := 2#32
  let v227 : BitVec 32 := Scalar.addi v165 c2_i32_204
  let c4_i32_205 : BitVec 32 := 4#32
  let v228 : BitVec 32 := Scalar.addi v227 c4_i32_205
  let c320_i32_206 : BitVec 32 := 320#32
  let v229 : BitVec 1 := Scalar.cmpi .slt v228 c320_i32_206
  let v230 : BitVec 32 := Scalar.extui v229
  let c0_i32_207 : BitVec 32 := 0#32
  let v231 : BitVec 1 := Scalar.cmpi .ne v230 c0_i32_207
  v231

def k0_off10 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c2_i32_241 : BitVec 32 := 2#32
  let v254 : BitVec 32 := Scalar.addi v165 c2_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v257.toNat, v29.toNat]
def k0_off11 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c2_i32_241 : BitVec 32 := 2#32
  let v254 : BitVec 32 := Scalar.addi v165 c2_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let c250_i32_248 : BitVec 32 := 250#32
  let v262 : BitVec 32 := Scalar.addi v257 c250_i32_248
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v262.toNat, v29.toNat]
@[reducible] def k0_t6_loop : Scf.Loop 32 :=
  let c0_i32_232 : BitVec 32 := 0#32
  let c250_i32_233 : BitVec 32 := 250#32
  let v248 : BitVec 32 := Scalar.addi c0_i32_232 c250_i32_233
  let c1_i32_234 : BitVec 32 := 1#32
  ⟨c0_i32_232, v248, c1_i32_234⟩

def k0_chk7 (v50 : IVec S16 32) (v258 : IVec S16 32) : Prop :=
  (∀ a x, ((![v258, v50] : Fin 2 → IVec S16 32) a x).toNat < S500x8.size a) ∧
  (∀ a x, ((![v258, v50] : Fin 2 → IVec S16 32) a x).toNat < S500x8.size a)
theorem k0_idx10_inb : ∀ (v50 : IVec S16 32) (v258 : IVec S16 32) (k0_hw7 : k0_chk7 v50 v258), ∀ a x, ((![v258, v50] : Fin 2 → IVec S16 32) a x).toNat < S500x8.size a := fun v50 v258 k0_hw7 => k0_hw7.1
theorem k0_idx11_inb : ∀ (v50 : IVec S16 32) (v258 : IVec S16 32) (k0_hw7 : k0_chk7 v50 v258), ∀ a x, ((![v258, v50] : Fin 2 → IVec S16 32) a x).toNat < S500x8.size a := fun v50 v258 k0_hw7 => k0_hw7.2

def k0_chk8 (v261 : IVec S16 32) : Prop :=
  (∀ a x, ((![v261] : Fin 1 → IVec S16 32) a x).toNat < S80000.size a)
theorem k0_idx12_inb : ∀ (v261 : IVec S16 32) (k0_hw8 : k0_chk8 v261), ∀ a x, ((![v261] : Fin 1 → IVec S16 32) a x).toNat < S80000.size a := fun v261 k0_hw8 => k0_hw8
def k0_cond4 (k0_t2 : Fin k0_t2_loop.trips) : BitVec 1 :=
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c3_i32_236 : BitVec 32 := 3#32
  let v249 : BitVec 32 := Scalar.addi v165 c3_i32_236
  let c4_i32_237 : BitVec 32 := 4#32
  let v250 : BitVec 32 := Scalar.addi v249 c4_i32_237
  let c320_i32_238 : BitVec 32 := 320#32
  let v251 : BitVec 1 := Scalar.cmpi .slt v250 c320_i32_238
  let v252 : BitVec 32 := Scalar.extui v251
  let c0_i32_239 : BitVec 32 := 0#32
  let v253 : BitVec 1 := Scalar.cmpi .ne v252 c0_i32_239
  v253

def k0_off12 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c3_i32_241 : BitVec 32 := 3#32
  let v254 : BitVec 32 := Scalar.addi v165 c3_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v257.toNat, v29.toNat]
def k0_off13 (i : grid0.Coords) (k0_t2 : Fin k0_t2_loop.trips) : Fin 2 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c160000_i32 : BitVec 32 := 160000#32
  let v30 : BitVec 32 := Scalar.muli v26 c160000_i32
  let c0_i32_106 : BitVec 32 := 0#32
  let c1_i32_107 : BitVec 32 := 1#32
  let arg23 : BitVec 32 := Scf.iv c0_i32_106 c1_i32_107 k0_t2
  let c4_i32 : BitVec 32 := 4#32
  let v165 : BitVec 32 := Scalar.muli arg23 c4_i32
  let c3_i32_241 : BitVec 32 := 3#32
  let v254 : BitVec 32 := Scalar.addi v165 c3_i32_241
  let c4_i32_242 : BitVec 32 := 4#32
  let v255 : BitVec 32 := Scalar.addi v254 c4_i32_242
  let c500_i32_243 : BitVec 32 := 500#32
  let v256 : BitVec 32 := Scalar.muli v255 c500_i32_243
  let v257 : BitVec 32 := Scalar.addi v30 v256
  let c250_i32_248 : BitVec 32 := 250#32
  let v262 : BitVec 32 := Scalar.addi v257 c250_i32_248
  let arg0 : BitVec 32 := BitVec.ofNat 32 (i 0).val
  let c8_i32_10 : BitVec 32 := 8#32
  let v27 : BitVec 32 := Scalar.muli arg0 c8_i32_10
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  ![v262.toNat, v29.toNat]
def k0_cond5 (i : grid0.Coords) : BitVec 1 :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c0_i32_109 : BitVec 32 := 0#32
  let v159 : BitVec 1 := Scalar.cmpi .eq v26 c0_i32_109
  let v160 : BitVec 32 := Scalar.extui v159
  let c0_i32_110 : BitVec 32 := 0#32
  let v161 : BitVec 1 := Scalar.cmpi .ne v160 c0_i32_110
  v161

def k0_off14 (i : grid0.Coords) (c0_i32_113 : BitVec 32) : Fin 2 → Nat :=
  let arg0 : BitVec 32 := BitVec.ofNat 32 (i 0).val
  let c8_i32_10 : BitVec 32 := 8#32
  let v27 : BitVec 32 := Scalar.muli arg0 c8_i32_10
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  let v165 : BitVec 32 := Scalar.addi v29 c0_i32_113
  let c0_i32_118_r0 : BitVec 32 := 0#32
  ![v165.toNat, 0]
def k0_cond6 (i : grid0.Coords) : BitVec 1 :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c1_i32_111 : BitVec 32 := 1#32
  let v162 : BitVec 1 := Scalar.cmpi .eq v26 c1_i32_111
  let v163 : BitVec 32 := Scalar.extui v162
  let c0_i32_112 : BitVec 32 := 0#32
  let v164 : BitVec 1 := Scalar.cmpi .ne v163 c0_i32_112
  v164

def k0_off15 (i : grid0.Coords) (c0_i32_113 : BitVec 32) : Fin 2 → Nat :=
  let arg0 : BitVec 32 := BitVec.ofNat 32 (i 0).val
  let c8_i32_10 : BitVec 32 := 8#32
  let v27 : BitVec 32 := Scalar.muli arg0 c8_i32_10
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.addi v27 v9
  let c8_i32_11 : BitVec 32 := 8#32
  let v29 : BitVec 32 := Scalar.muli v28 c8_i32_11
  let v165 : BitVec 32 := Scalar.addi v29 c0_i32_113
  let c0_i32_118_r8 : BitVec 32 := 0#32
  ![v165.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x10000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x10000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S320000x128 : Shape := ⟨2, ![320000, 128]⟩
abbrev S128 : Shape := ⟨1, ![128]⟩
abbrev S_ : Shape := ⟨0, ![]⟩
abbrev S320000x128x1 : Shape := ⟨3, ![320000, 128, 1]⟩
abbrev S320000x128x2 : Shape := ⟨3, ![320000, 128, 2]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .i32⟩
  | .hbm, ⟨2, _⟩ => ⟨S320000x128, .f32⟩
  | .hbm, ⟨3, _⟩ => ⟨S128, .i32⟩
  | .hbm, ⟨4, _⟩ => ⟨S320000x128, .i32⟩
  | .hbm, ⟨5, _⟩ => ⟨S_, .i32⟩
  | .hbm, ⟨6, _⟩ => ⟨S320000x128, .i32⟩
  | .hbm, ⟨7, _⟩ => ⟨S320000x128, .i1⟩
  | .hbm, ⟨8, _⟩ => ⟨S_, .i32⟩
  | .hbm, ⟨9, _⟩ => ⟨S320000x128, .i32⟩
  | .hbm, ⟨10, _⟩ => ⟨S320000x128, .i32⟩
  | .hbm, ⟨11, _⟩ => ⟨S320000x128, .i32⟩
  | .hbm, ⟨12, _⟩ => ⟨S_, .i32⟩
  | .hbm, ⟨13, _⟩ => ⟨S320000x128, .i32⟩
  | .hbm, ⟨14, _⟩ => ⟨S320000x128, .i1⟩
  | .hbm, ⟨15, _⟩ => ⟨S_, .i32⟩
  | .hbm, ⟨16, _⟩ => ⟨S320000x128, .i32⟩
  | .hbm, ⟨17, _⟩ => ⟨S320000x128, .i32⟩
  | .hbm, ⟨18, _⟩ => ⟨S320000x128, .i32⟩
  | .hbm, ⟨19, _⟩ => ⟨S320000x128x1, .i32⟩
  | .hbm, ⟨20, _⟩ => ⟨S320000x128x1, .i32⟩
  | .hbm, ⟨21, _⟩ => ⟨S320000x128x2, .i32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Model.lean ====
/-
  The values of the scatter, as plain functions: no machine, no program state.

  One tile of the SparseCore kernel owns eight neighbouring columns (from `C`) and one half of the rows (from `R`) of
  `index` and `src`. It walks its rows two at a time; the sixteen lanes of one step are two rows by eight columns. Step
  `t` adds `src` at its sixteen elements onto a flat accumulator of eight groups of 10000 entries: the group is the column
  within the eight, the entry within the group the index word. `accAt … t` is the accumulator after `t` steps.
-/
module

public import proofs.«01_k».proof.Defs
public import proofs.«01_k».proof.Proof.Gen.KernelIdeal
public import proofs.«01_k».proof.Proof.Gen.KernelIdeal.Skeleton

@[expose] public section

noncomputable section

namespace Cert.Proof.Scatter

open Cert.KernelIdeal Cert.KernelIdeal.Gen
open Idealize.ShloMosaic

/-- The element of `index` or `src` at row `r` and column `c` (both taken modulo the extents, so that it is total). -/
def at2 (r c : ℕ) : S320000x128.Idx
  | 0 => ⟨r % 320000, Nat.mod_lt _ (by decide)⟩
  | 1 => ⟨c % 128, Nat.mod_lt _ (by decide)⟩

theorem at2_zero (r c : ℕ) (h : r < 320000) : (at2 r c 0).val = r := Nat.mod_eq_of_lt h
theorem at2_one (r c : ℕ) (h : c < 128) : (at2 r c 1).val = c := Nat.mod_eq_of_lt h

theorem at2_eq (x : S320000x128.Idx) {r c : ℕ} (h0 : (x 0).val = r) (h1 : (x 1).val = c) : x = at2 r c := by
  funext a
  match a with
  | 0 => exact Fin.ext (by rw [h0]; exact (Nat.mod_eq_of_lt (h0 ▸ (x 0).isLt)).symm)
  | 1 => exact Fin.ext (by rw [h1]; exact (Nat.mod_eq_of_lt (h1 ▸ (x 1).isLt)).symm)

/-- Five hundred rows from `R` and eight columns from `C` of an array: what one pair of transfers brings in. -/
def chunk {α : Type} (a : S320000x128.Idx → α) (R C : ℕ) : S500x8.Idx → α := fun x => a (at2 (R + (x 0).val) (C + (x 1).val))

/-- Two rows from `R` and eight columns from `C` of an array, as sixteen lanes. -/
def lanes {α : Type} (a : S320000x128.Idx → α) (R C : ℕ) : S16.Idx → α := fun x => a (at2 (R + (x 0).val / 8) (C + (x 0).val % 8))

/-- Where each lane adds: the index word, in the group of the lane's column. -/
def target (idx : S320000x128.Idx → BitVec 32) (R C : ℕ) : IVec S16 32 :=
  addi (lanes idx R C) (fun x => BitVec.ofNat 32 ((x 0).val % 8 * 10000))

variable {F : FTy → Type} [FloatOps F]

/-- One indexed store-with-add of a vector at the targets `iv`, where these are in range. -/
def putStep (g : S80000.Idx → Elt F .f32) (iv : IVec S16 32) (v : S16.Idx → Elt F .f32) : S80000.Idx → Elt F .f32 :=
  if h : ∀ (a : Fin S80000.rank) x, ((![iv] : Fin 1 → IVec S16 32) a x).toNat < S80000.size a
  then storeIdx g ![iv] v (fun _ => 1#1) true h else g

/-- The accumulator of the tile that owns columns from `C`, rows from `R`, after `t` steps. -/
def accAt (idx : S320000x128.Idx → BitVec 32) (src : S320000x128.Idx → Elt F .f32) (R C : ℕ) : ℕ → S80000.Idx → Elt F .f32
  | 0 => fun _ => Scalar.ofBits .f32 0x00000000#32
  | t + 1 => putStep (accAt idx src R C t) (target idx (R + 2 * t) C) (lanes src (R + 2 * t) C)

/-- The flat accumulator's entry for column `k` of the eight, target row `n`. -/
def slot (k n : ℕ) : S80000.Idx := fun
  | 0 => ⟨(k * 10000 + n) % 80000, Nat.mod_lt _ (by decide)⟩

/-- What the SparseCore leaves in its output for half `h` of the rows: at column `x 0` and target row `x 1` the finished
    accumulator of the tile that owns the column. -/
def partialT (idx : S320000x128.Idx → BitVec 32) (src : S320000x128.Idx → Elt F .f32) (h : ℕ) : S128x10000.Idx → Elt F .f32 :=
  fun x => accAt idx src (h * 160000) ((x 0).val / 8 * 8) 80000 (slot ((x 0).val % 8) (x 1).val)

end Cert.Proof.Scatter

end
-- ==== Proof.Lanes.lean ====
/-
  The lane vectors the kernel computes, the offsets of its transfers and its guards, evaluated.
-/
module

public import proofs.«01_k».proof.Proof.Model

@[expose] public section

noncomputable section

namespace Cert.Proof.Scatter

open Cert.KernelIdeal Cert.KernelIdeal.Gen
open Idealize.ShloMosaic

/-! ## The lane vectors of the kernel -/

theorem lane_row : k0_pay7 (iota .scVector S16 32 [0] iota_S16_d0_w32_scVector) = fun x => BitVec.ofNat 32 ((x 0).val / 8) := by
  funext x; revert x; decide +kernel
theorem lane_col : k0_pay6 (iota .scVector S16 32 [0] iota_S16_d0_w32_scVector) 8#32 = fun x => BitVec.ofNat 32 ((x 0).val % 8) := by
  funext x; revert x; decide +kernel
theorem lane_base : k0_pay8 (iota .scVector S16 32 [0] iota_S16_d0_w32_scVector) 8#32 = fun x => BitVec.ofNat 32 ((x 0).val % 8 * 10000) := by
  funext x; revert x; decide +kernel

/-! ## Offsets and guards -/

/-- The first column of the eight that tile `i` owns, and the first of its rows. -/
def colOf (i : grid0.Coords) : ℕ := ((i 0).val * 8 + (i 1).val % 8) * 8
def rowOf (i : grid0.Coords) : ℕ := (i 1).val / 8 * 160000

theorem colOf_le (i : grid0.Coords) : colOf i + 8 ≤ 128 := by
  have h0 : (i 0).val < 2 := (i 0).isLt
  unfold colOf; omega
theorem rowOf_le (i : grid0.Coords) : rowOf i + 160000 ≤ 320000 := by
  have h0 : (i 1).val < 16 := (i 1).isLt
  unfold rowOf; omega

theorem trips_main : k0_t2_loop.trips = 80 := by decide
theorem trips_zero : k0_t1_loop.trips = 5000 := by decide

theorem off2_eq : ∀ (i : grid0.Coords) (r : Fin 4), k0_off2 i (BitVec.ofNat 32 r.val) = ![rowOf i + 500 * r.val, colOf i] := by decide +kernel
theorem off3_eq : ∀ (i : grid0.Coords) (r : Fin 4), k0_off3 i (BitVec.ofNat 32 r.val) = ![rowOf i + 500 * r.val + 250, colOf i] := by decide +kernel

theorem off5_eq : ∀ (i : grid0.Coords) (t : Fin k0_t2_loop.trips), k0_off5 i t = ![rowOf i + 500 * (4 * t.val + 4), colOf i] := by decide +kernel
theorem off6_eq : ∀ (i : grid0.Coords) (t : Fin k0_t2_loop.trips), k0_off6 i t = ![rowOf i + 500 * (4 * t.val + 4) + 250, colOf i] := by decide +kernel
theorem off8_eq : ∀ (i : grid0.Coords) (t : Fin k0_t2_loop.trips), k0_off8 i t = ![rowOf i + 500 * (4 * t.val + 5), colOf i] := by decide +kernel
theorem off9_eq : ∀ (i : grid0.Coords) (t : Fin k0_t2_loop.trips), k0_off9 i t = ![rowOf i + 500 * (4 * t.val + 5) + 250, colOf i] := by decide +kernel
theorem off10_eq : ∀ (i : grid0.Coords) (t : Fin k0_t2_loop.trips), k0_off10 i t = ![rowOf i + 500 * (4 * t.val + 6), colOf i] := by decide +kernel
theorem off11_eq : ∀ (i : grid0.Coords) (t : Fin k0_t2_loop.trips), k0_off11 i t = ![rowOf i + 500 * (4 * t.val + 6) + 250, colOf i] := by decide +kernel
theorem off12_eq : ∀ (i : grid0.Coords) (t : Fin k0_t2_loop.trips), k0_off12 i t = ![rowOf i + 500 * (4 * t.val + 7), colOf i] := by decide +kernel
theorem off13_eq : ∀ (i : grid0.Coords) (t : Fin k0_t2_loop.trips), k0_off13 i t = ![rowOf i + 500 * (4 * t.val + 7) + 250, colOf i] := by decide +kernel
theorem off14_eq : ∀ (i : grid0.Coords) (r : Fin 8), k0_off14 i (BitVec.ofNat 32 r.val) = ![colOf i + r.val, 0] := by decide +kernel
theorem off15_eq : ∀ (i : grid0.Coords) (r : Fin 8), k0_off15 i (BitVec.ofNat 32 r.val) = ![colOf i + r.val, 0] := by decide +kernel

theorem cond1_iff : ∀ t : Fin k0_t2_loop.trips, k0_cond1 t = 1#1 ↔ t.val < 79 := by decide +kernel
theorem cond2_iff : ∀ t : Fin k0_t2_loop.trips, k0_cond2 t = 1#1 ↔ t.val < 79 := by decide +kernel
theorem cond3_iff : ∀ t : Fin k0_t2_loop.trips, k0_cond3 t = 1#1 ↔ t.val < 79 := by decide +kernel
theorem cond4_iff : ∀ t : Fin k0_t2_loop.trips, k0_cond4 t = 1#1 ↔ t.val < 79 := by decide +kernel
theorem cond5_iff : ∀ i : grid0.Coords, k0_cond5 i = 1#1 ↔ (i 1).val / 8 = 0 := by decide +kernel
theorem cond6_iff : ∀ i : grid0.Coords, k0_cond6 i = 1#1 ↔ (i 1).val / 8 = 1 := by decide +kernel

end Cert.Proof.Scatter

end
-- ==== Proof.Setup.lean ====
/-
  The program as the launch theorem sees it: the SparseCore call's configuration, the label signature with the
  TensorCore's pipeline in it, the resource algebra (the handshakes' rounds, the pipeline's staging cells' rounds, and
  the counters of the tiles' transfers), and the arrays as locations.
-/
module

public import Idealize.ShloMosaic.Lib.SparseCore.Quiescent
public import Idealize.ShloMosaic.Lib.SparseCore.Ops
public import Idealize.ShloMosaic.Lib.StableHlo.Run
public import Idealize.ShloMosaic.Lib.Pipeline.Regions
public import Idealize.ShloMosaic.Lib.Batch
public import Idealize.ShloMosaic.Lib.Writes
public import Idealize.ShloMosaic.Lib.Tactic
public import proofs.«01_k».proof.Proof.Lanes
public import proofs.«01_k».proof.Proof.Gen.KernelIdeal.Launch
public import proofs.«01_k».proof.Proof.Gen.KernelIdeal.Points

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × UP × Counters

/-- The machine's algebra over this program. -/
abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-- The counters' place in the algebra. -/
abbrev EC : UEmb Counters (MM F) := countersEmb (U := UU)

/-! ## The arrays -/

/-- `input`, `index` and `src` (the arguments), the two partial scatters the SparseCore writes, and the result. -/
abbrev inLoc (d : Dev nD) : Loc nD τ sig := (SparseCore.T d).loc main_arg0
abbrev idxLoc (d : Dev nD) : Loc nD τ sig := (SparseCore.T d).loc main_arg1
abbrev srcLoc (d : Dev nD) : Loc nD τ sig := (SparseCore.T d).loc main_arg2
abbrev p0Loc (d : Dev nD) : Loc nD τ sig := (SparseCore.T d).loc main_v0_0
abbrev p1Loc (d : Dev nD) : Loc nD τ sig := (SparseCore.T d).loc main_v0_1
abbrev outLoc (d : Dev nD) : Loc nD τ sig := (SparseCore.T d).loc main_v1

/-- A tile's core and place within it, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Scatter

end
-- ==== Proof.Steps.lean ====
/-
  One buffer's fetches, once for all four buffers and both arrays: a pair of transfers of 250 rows each on one semaphore
  fills a buffer of 500 rows by eight columns from the array's rows from `R` and columns from `C`.

  `Free` is the buffer before an issue and after its waits: its semaphore at zero, the buffer, and a share of the array
  for each of the two transfers. `Flying R C` is the pair under way. The two transfers' deliveries are the two halves of
  the buffer at one whole contents, which reads as the chunk of the array at `R`, `C`; the last wait brings both back.
-/
module

public import proofs.«01_k».proof.Proof.Setup

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-- Two parts of one contents, joined. -/
theorem join_same {ℓ : Loc nD τ sig} {I S : Finset (Idx ℓ)} (h : I ⊆ S) (q : PosShare TreeShare) (f : Buf (Elt F) ℓ) :
    iprop((ℓ ↦[I]{q} f) ∗ ℓ ↦[S \ I]{q} f) ⊢ (ℓ ↦[S]{q} f : sProp 𝕄) :=
  (pointsTo_join_subset h).trans (Entails.of_eq (by rw [Finset.piecewise_same]))

/-- A memref's elements at contents that read as `g`. -/
def Held {sp : Space} {s : Shape} {e : EltTy} (m : Memref sig .scVector sp s e) (d : Dev nD) (L : grid0.Coords) (g : s.Idx → Elt F e) : sProp 𝕄 :=
  iprop(∃ f, ⌜m.view.read (Elt F) f = g⌝ ∗ m.view.loc (thr d L) ↦[m.view.set]{fullShare} f)

section Buffers

variable {e : EltTy} (A : Memref sig .scVector .hbm S320000x128 e) (B : Memref sig .scVector .vmem S500x8 e) (sm : DmaSem sig)
variable (d : Dev nD) (L : grid0.Coords)

/-- The slices as the program spells them: 250 rows of the array at an offset, and the buffer's two halves. -/
abbrev win (o : Fin 2 → ℕ) (h : ∀ a, o a + S250x8.size a ≤ S320000x128.size a) : Memref sig .scVector .hbm S250x8 e :=
  A.slice (Rect.unit (s := S320000x128) o S250x8.size h) (fun _ => rfl)
abbrev topR : Rect S500x8 := Rect.unit (s := S500x8) ![0, 0] S250x8.size inb_S500x8_S250x8_0_0
abbrev botR : Rect S500x8 := Rect.unit (s := S500x8) ![250, 0] S250x8.size inb_S500x8_S250x8_250_0
abbrev top : Memref sig .scVector .vmem S250x8 e := B.slice topR (fun _ => rfl)
abbrev bot : Memref sig .scVector .vmem S250x8 e := B.slice botR (fun _ => rfl)

abbrev aLoc : Loc nD τ sig := A.view.loc (thr d L)
abbrev bLoc : Loc nD τ sig := B.view.loc (thr d L)

/-- The buffer's contents after the pair at `R`, `C`, over contents `fd`. -/
def filled (fA : Buf (Elt F) (aLoc A d L)) (fd : Buf (Elt F) (bLoc B d L)) (R C : ℕ) : Buf (Elt F) (bLoc B d L) :=
  B.view.write (Elt F) fd (chunk (A.view.read (Elt F) fA) R C) Finset.univ

theorem read_filled (fA : Buf (Elt F) (aLoc A d L)) (fd : Buf (Elt F) (bLoc B d L)) (R C : ℕ) :
    B.view.read (Elt F) (filled A B d L fA fd R C) = chunk (A.view.read (Elt F) fA) R C := View.read_write_univ _ _

/-- The element a transfer's slice of the array names. -/
theorem win_emb {o : Fin 2 → ℕ} {h} {R C : ℕ} (ho : o = ![R, C]) (y : S250x8.Idx) :
    (Rect.unit (s := S320000x128) o S250x8.size h).emb y = at2 (R + (y 0).val) (C + (y 1).val) := by
  subst ho
  refine at2_eq _ ?_ ?_ <;> simp

theorem top_emb0 (y : S250x8.Idx) : ((topR.emb y) 0).val = (y 0).val := by simp
theorem top_emb1 (y : S250x8.Idx) : ((topR.emb y) 1).val = (y 1).val := by simp
theorem bot_emb0 (y : S250x8.Idx) : ((botR.emb y) 0).val = 250 + (y 0).val := by simp
theorem bot_emb1 (y : S250x8.Idx) : ((botR.emb y) 1).val = (y 1).val := by simp

/-- The first transfer leaves the top half at the filled contents. -/
theorem top_lands {o : Fin 2 → ℕ} {h} {R C : ℕ} (ho : o = ![R, C]) (fA : Buf (Elt F) (aLoc A d L)) (fd : Buf (Elt F) (bLoc B d L)) :
    ∀ x ∈ (top B).view.set, (top B).view.write (Elt F) fd ((win A o h).view.read (Elt F) fA) Finset.univ x = filled A B d L fA fd R C x := by
  intro x hx
  obtain ⟨y, -, rfl⟩ := Finset.mem_map.mp hx
  rw [View.write_emb_of_mem _ _ (Finset.mem_univ y)]
  unfold filled
  show _ = B.view.write (Elt F) fd _ Finset.univ (B.view.emb (topR.emb y))
  rw [View.write_emb_of_mem _ _ (Finset.mem_univ _)]
  refine congrArg _ ?_
  show A.view.read (Elt F) fA ((Rect.unit (s := S320000x128) o S250x8.size h).emb y) = _
  rw [win_emb ho, chunk, top_emb0, top_emb1]

/-- What is not in the top half is in the bottom one. -/
theorem mem_bot {x : B.view.ty.Idx} (hx : x ∈ B.view.set \ (top B).view.set) : ∃ y : S250x8.Idx, x = B.view.emb (botR.emb y) := by
  obtain ⟨hx, hn⟩ := Finset.mem_sdiff.mp hx
  obtain ⟨z, -, rfl⟩ := Finset.mem_map.mp hx
  have hz0 : (z 0).val < 500 := (z 0).isLt
  have hz1 : (z 1).val < 8 := (z 1).isLt
  by_cases hlt : (z 0).val < 250
  · refine absurd (Finset.mem_map.mpr ⟨(fun | 0 => ⟨(z 0).val, hlt⟩ | 1 => ⟨(z 1).val, hz1⟩ : S250x8.Idx), Finset.mem_univ _, ?_⟩) hn
    show B.view.emb (topR.emb _) = _
    refine congrArg _ ?_
    funext a
    match a with
    | 0 => exact Fin.ext (top_emb0 _)
    | 1 => exact Fin.ext (top_emb1 _)
  · refine ⟨(fun | 0 => ⟨(z 0).val - 250, by change _ < 250; omega⟩ | 1 => ⟨(z 1).val, hz1⟩ : S250x8.Idx), ?_⟩
    refine congrArg _ ?_
    funext a
    match a with
    | 0 => exact Fin.ext (by rw [bot_emb0]; show (z 0).val = 250 + ((z 0).val - 250); omega)
    | 1 => exact Fin.ext (by rw [bot_emb1])

/-- The second transfer leaves the rest at the filled contents. -/
theorem bot_lands {o : Fin 2 → ℕ} {h} {R C : ℕ} (ho : o = ![R + 250, C]) (fA : Buf (Elt F) (aLoc A d L)) (fd : Buf (Elt F) (bLoc B d L)) :
    ∀ x ∈ B.view.set \ (top B).view.set, (bot B).view.write (Elt F) fd ((win A o h).view.read (Elt F) fA) Finset.univ x = filled A B d L fA fd R C x := by
  intro x hx
  obtain ⟨y, rfl⟩ := mem_bot B hx
  unfold filled
  rw [View.write_emb_of_mem _ _ (Finset.mem_univ _)]
  show (bot B).view.write (Elt F) fd _ Finset.univ ((bot B).view.emb y) = _
  rw [View.write_emb_of_mem _ _ (Finset.mem_univ y)]
  refine congrArg _ ?_
  show A.view.read (Elt F) fA ((Rect.unit (s := S320000x128) o S250x8.size h).emb y) = _
  rw [win_emb ho, chunk, bot_emb0, bot_emb1, Nat.add_assoc]

theorem bot_subset : (bot B).view.set ⊆ B.view.set \ (top B).view.set := by
  intro x hx
  obtain ⟨y, -, rfl⟩ := Finset.mem_map.mp hx
  refine Finset.mem_sdiff.mpr ⟨View.set_slice_subset _ _ (Finset.mem_map.mpr ⟨y, Finset.mem_univ _, rfl⟩), fun hn => ?_⟩
  obtain ⟨z, -, hz⟩ := Finset.mem_map.mp hn
  have h0 : topR.emb z = botR.emb y := B.view.emb.injective hz
  have h1 := congrArg (fun w => (w 0).val) h0
  have h2 : (z 0).val < 250 := (z 0).isLt
  simp only [top_emb0, bot_emb0] at h1
  omega

/-- What the two transfers of a pair deliver: the halves of the buffer at contents `g`, and the array's slices back. -/
def back (q0 q1 : PosShare TreeShare) (fA : Buf (Elt F) (aLoc A d L)) (I0 I1 : Finset (Idx (aLoc A d L))) (g : Buf (Elt F) (bLoc B d L)) : Fin 2 → sProp 𝕄
  | 0 => iprop((bLoc B d L ↦[(top B).view.set]{fullShare} g) ∗ (aLoc A d L ↦[I0]{q0} fA))
  | 1 => iprop((bLoc B d L ↦[B.view.set \ (top B).view.set]{fullShare} g) ∗ (aLoc A d L ↦[I1]{q1} fA))

instance back_storable (q0 q1 : PosShare TreeShare) (fA : Buf (Elt F) (aLoc A d L)) (I0 I1 : Finset (Idx (aLoc A d L))) (g : Buf (Elt F) (bLoc B d L))
    (t : Fin 2) : BI.Storable (upEmb : UEmb _ 𝕄) (back A B d L q0 q1 fA I0 I1 g t) := by
  match t with
  | 0 => unfold back; infer_instance
  | 1 => unfold back; infer_instance

theorem back_both (q0 q1 : PosShare TreeShare) (fA : Buf (Elt F) (aLoc A d L)) (I0 I1 : Finset (Idx (aLoc A d L))) (g : Buf (Elt F) (bLoc B d L)) :
    bigSep Finset.univ (back A B d L q0 q1 fA I0 I1 g)
      ⊢ iprop(((bLoc B d L ↦[(top B).view.set]{fullShare} g) ∗ (aLoc A d L ↦[I0]{q0} fA))
        ∗ (bLoc B d L ↦[B.view.set \ (top B).view.set]{fullShare} g) ∗ (aLoc A d L ↦[I1]{q1} fA)) := by
  rw [bigSep_univ_eq_bigSepL [0, 1] (by decide) (by decide)]
  exact Entails.rfl

/-- The units one transfer of the pair credits. -/
abbrev units : ℕ := (top B).view.dmaCredit
theorem units_pos : 0 < units B := View.dmaCredit_pos _ (by decide)

/-- The buffer at contents that read as `g`, its semaphore at zero, the array's two shares. -/
def Full (q0 q1 : PosShare TreeShare) (fA : Buf (Elt F) (aLoc A d L)) (g : S500x8.Idx → Elt F e) : sProp 𝕄 :=
  iprop(semVal (thr d L, .dma sm) 0 ∗ Held B d L g
    ∗ (aLoc A d L ↦[A.view.set]{q0} fA) ∗ (aLoc A d L ↦[A.view.set]{q1} fA))

/-- The same at whatever contents. -/
def Free (q0 q1 : PosShare TreeShare) (fA : Buf (Elt F) (aLoc A d L)) : sProp 𝕄 :=
  iprop(semVal (thr d L, .dma sm) 0 ∗ (∃ f, bLoc B d L ↦[B.view.set]{fullShare} f)
    ∗ (aLoc A d L ↦[A.view.set]{q0} fA) ∗ (aLoc A d L ↦[A.view.set]{q1} fA))

/-- The pair at `R`, `C` under way. -/
def Flying (q0 q1 : PosShare TreeShare) (fA : Buf (Elt F) (aLoc A d L)) (R C : ℕ) : sProp 𝕄 :=
  iprop(∃ (I0 I1 : Finset (Idx (aLoc A d L))) (g : Buf (Elt F) (bLoc B d L)),
    ⌜I0 ⊆ A.view.set ∧ I1 ⊆ A.view.set ∧ B.view.read (Elt F) g = chunk (A.view.read (Elt F) fA) R C⌝
    ∗ Transfers.Batch EC (thr d L) (.dma sm) none (units B) (back A B d L q0 q1 fA I0 I1 g) 2 0
    ∗ (aLoc A d L ↦[A.view.set \ I0]{q0} fA) ∗ (aLoc A d L ↦[A.view.set \ I1]{q1} fA))

theorem full_free (q0 q1 : PosShare TreeShare) (fA : Buf (Elt F) (aLoc A d L)) (g : S500x8.Idx → Elt F e) :
    Full A B sm d L q0 q1 fA g ⊢ Free A B sm d L q0 q1 fA := by
  unfold Full Free Held
  iintro ⟨Hs, ⟨%f, -, Hb⟩, H0, H1⟩
  isplitl [Hs]; · iexact Hs
  isplitl [Hb]; · iexists f; iexact Hb
  isplitl [H0]; · iexact H0
  iexact H1

variable [FloatOps F]

theorem ret_bind' {Λ : Labels} {p : Proc τ} {α β : Type} (a : α) (k : α → Prog (TpuEff nD τ sig (Elt F) Λ p) β) : (Prog.ret a).bind k = k a := rfl

/-- Issuing a pair. -/
theorem wp_issue {q0 q1 : PosShare TreeShare} {fA : Buf (Elt F) (aLoc A d L)} {R C : ℕ} {o1 o2 : Fin 2 → ℕ} {h1 h2} (ho1 : o1 = ![R, C]) (ho2 : o2 = ![R + 250, C])
    {w1 : (win A o1 h1).view.WordExact} {w2 : (win A o2 h2).view.WordExact} {v1 : (top B).view.WordExact} {v2 : (bot B).view.WordExact}
    {t1 : (DmaTarget.here (top B) : DmaTarget nD τ sig (thr d L).2 .vmem S250x8 e).Typed .hbm (.dma sm)}
    {t2 : (DmaTarget.here (bot B) : DmaTarget nD τ sig (thr d L).2 .vmem S250x8 e).Typed .hbm (.dma sm)}
    {α : Type} {k : PUnit → Prog (TpuEff nD τ sig (Elt F) Λ₀ (thr d L).2) α} {Q : α → sProp 𝕄} :
    Free A B sm d L q0 q1 fA ⊢ iprop((Flying A B sm d L q0 q1 fA R C -∗ wp frame (wpE (defs₀ (F := F)) 𝒱₀ (thr d L) none) Set.univ (k ⟨⟩) Q)
      -∗ wp frame (wpE (defs₀ (F := F)) 𝒱₀ (thr d L) none) Set.univ
        (.op (.enqueueDma (win A o1 h1) (.here (top B)) (.dma sm) w1 v1 t1) fun _ =>
          .op (.enqueueDma (win A o2 h2) (.here (bot B)) (.dma sm) w2 v2 t2) k) Q) := by
  unfold Free
  iintro ⟨Hs, ⟨%fd, Hb⟩, H0, H1⟩ Hk
  have hs0 : (win A o1 h1).view.set ⊆ A.view.set := View.set_slice_subset _ _
  have hs1 : (win A o2 h2).view.set ⊆ A.view.set := View.set_slice_subset _ _
  have ht : (top B).view.set ⊆ B.view.set := View.set_slice_subset _ _
  imod (Transfers.batch_alloc' (Lvl := ℕ) EC (thr d L) none (units B)
    (back A B d L q0 q1 fA (win A o1 h1).view.set (win A o2 h2).view.set (filled A B d L fA fd R C)) (sm := .dma sm) (E := Set.univ)) $$ Hs with HB
  ihave Hb' := (pointsTo_split_subset ht) $$ Hb
  icases Hb' with ⟨Hb0, Hb1⟩
  ihave H0' := (pointsTo_split_subset hs0) $$ H0
  icases H0' with ⟨H0, Hr0⟩
  ihave H1' := (pointsTo_split_subset hs1) $$ H1
  icases H1' with ⟨H1, Hr1⟩
  iapply (Transfers.wp_dmaBatch EC 𝒱₀ (thr d L) none (src := win A o1 h1) (dst := top B) (fs := fA) (fd := fd) none (units B) rfl (Finset.Subset.refl _)
    (D := back A B d L q0 q1 fA (win A o1 h1).view.set (win A o2 h2).view.set (filled A B d L fA fd R C)) (j := 0) (u := 0) (by decide) (Nat.zero_le _) ?hD0) $$ [H0 Hb0 HB]
  case hD0 =>
    show _ ⊢ iprop((bLoc B d L ↦[(top B).view.set]{fullShare} filled A B d L fA fd R C) ∗ (aLoc A d L ↦[(win A o1 h1).view.set]{q0} fA))
    rw [pointsTo_congr (top_lands A B d L (h := h1) ho1 fA fd)]
  · isplitl [H0]; · iexact H0
    isplitl [Hb0]; · iexact Hb0
    iexact HB
  iintro HB
  iapply (Transfers.wp_dmaBatch EC 𝒱₀ (thr d L) none (src := win A o2 h2) (dst := bot B) (fs := fA) (fd := fd) none (units B) rfl (bot_subset B)
    (D := back A B d L q0 q1 fA (win A o1 h1).view.set (win A o2 h2).view.set (filled A B d L fA fd R C)) (j := 1) (u := 0) (by decide) (Nat.zero_le _) ?hD1) $$ [H1 Hb1 HB]
  case hD1 =>
    show _ ⊢ iprop((bLoc B d L ↦[B.view.set \ (top B).view.set]{fullShare} filled A B d L fA fd R C) ∗ (aLoc A d L ↦[(win A o2 h2).view.set]{q1} fA))
    rw [pointsTo_congr (bot_lands A B d L (h := h2) ho2 fA fd)]
  · isplitl [H1]; · iexact H1
    isplitl [Hb1]; · iexact Hb1
    iexact HB
  iintro HB
  iapply Hk
  unfold Flying
  iexists _; iexists _; iexists _
  isplitr
  · ipureintro; exact ⟨hs0, hs1, read_filled A B d L fA fd R C⟩
  isplitl [HB]; · iexact HB
  isplitl [Hr0]; · iexact Hr0
  iexact Hr1

/-- The two waits of a pair. -/
theorem wp_settle {q0 q1 : PosShare TreeShare} {fA : Buf (Elt F) (aLoc A d L)} {R C : ℕ} {O : CellTallies nD τ sig (HIx 1)} {W : Waits sig (HIx 1)} (hO : ∀ g, O g none = 0)
    {s1 s2 : Memref sig .scVector .hbm S250x8 e} {w1 : s1.view.WordExact} {w2 : s2.view.WordExact} {v1 : (top B).view.WordExact} {v2 : (bot B).view.WordExact}
    {α : Type} {k : PUnit → Prog (TpuEff nD τ sig (Elt F) Λ₀ (thr d L).2) α} {Q : α → sProp 𝕄} :
    iprop(levAts (K (F := F)).L (K (F := F)).lev ∗ Flying A B sm d L q0 q1 fA R C ∗ owes (thr d L) O W)
      ⊢ iprop((iprop(Full A B sm d L q0 q1 fA (chunk (A.view.read (Elt F) fA) R C) ∗ owes (thr d L) O (insert (SemLoc.dma sm, none) W))
          -∗ wp frame (wpE (defs₀ (F := F)) 𝒱₀ (thr d L) none) Set.univ (k ⟨⟩) Q)
      -∗ wp frame (wpE (defs₀ (F := F)) 𝒱₀ (thr d L) none) Set.univ
        (.op (.waitDma2 sm s1 (top B) w1 v1) fun _ => .op (.waitDma2 sm s2 (bot B) w2 v2) k) Q) := by
  unfold Flying Full Held
  rw [← Finset.insert_idem (SemLoc.dma sm, none) W]
  iintro ⟨#Hlv, ⟨%I0, %I1, %g, %hI, HB, Hr0, Hr1⟩, HO⟩ Hk
  obtain ⟨hI0, hI1, hg⟩ := hI
  have hp := units_pos B
  iapply (Transfers.wp_waitBatchO EC 𝒱₀ (thr d L) none (srcw := s1) (dstw := top B) (hsrc := w1) (hdst := v1) none (N := units B) rfl (D := back A B d L q0 q1 fA I0 I1 g) (u := 0) (by omega)) $$ [HB HO]
  · isplitl [HB]; · iexact HB
    isplitl [HO]; · iexact HO
    iapply ((K (F := F)).mayWait_none (SemLoc.dma sm) hO); iexact Hlv
  iintro ⟨HB, HO⟩
  iapply (Transfers.wp_waitBatchLastO EC 𝒱₀ (thr d L) none (srcw := s2) (dstw := bot B) (hsrc := w2) (hdst := v2) none (N := units B) rfl hp (D := back A B d L q0 q1 fA I0 I1 g) (u := 0 + units B) (by omega)) $$ [HB HO]
  · isplitl [HB]; · iexact HB
    isplitl [HO]; · iexact HO
    iapply ((K (F := F)).mayWait_none (SemLoc.dma sm) hO); iexact Hlv
  iintro ⟨HD, Hs, HO⟩
  iapply Hk
  ihave HD' := (back_both A B d L q0 q1 fA I0 I1 g) $$ HD
  icases HD' with ⟨⟨Hb0, H0⟩, Hb1, H1⟩
  isplitr [HO]
  · isplitl [Hs]; · iexact Hs
    isplitl [Hb0 Hb1]
    · iexists g
      isplitr; · ipureintro; exact hg
      iapply (join_same (View.set_slice_subset _ _ : (top B).view.set ⊆ B.view.set) fullShare g)
      isplitl [Hb0]; · iexact Hb0
      iexact Hb1
    isplitl [H0 Hr0]
    · iapply (join_same hI0 q0 fA)
      isplitl [H0]; · iexact H0
      iexact Hr0
    · iapply (join_same hI1 q1 fA)
      isplitl [H1]; · iexact H1
      iexact Hr1
  · iexact HO

end Buffers

end Cert.Proof.Scatter

end
-- ==== Proof.Compute.lean ====
/-
  The tile's work on its own memory: the loop that zeroes the accumulator, and the loop that adds one buffer's 500 rows
  onto it, two rows at a step — once for all four buffers.
-/
module

public import proofs.«01_k».proof.Proof.Steps

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (d : Dev nD) (L : grid0.Coords)

/-- The program of one tile. -/
abbrev TileProg (F : FTy → Type) (d : Dev nD) (L : grid0.Coords) (α : Type) := Prog (TpuEff nD τ sig (Elt F) Λ₀ (thr d L).2) α

/-! ## Zeroing -/

section Zero

variable [FloatOps F] (Acc : Memref sig .scVector .vmem S80000 .f32)

/-- The first `n` entries are zero. -/
def ZeroTo (n : ℕ) (f : Buf (Elt F) (Acc.view.loc (thr d L))) : Prop :=
  ∀ x : S80000.Idx, (x 0).val < n → Acc.view.read (Elt F) f x = Scalar.ofBits .f32 0x00000000#32

abbrev stripe (t : Fin k0_t1_loop.trips) : Rect S80000 := Rect.unit (s := S80000) (k0_off1 t) S16.size (k0_off1_inb t)

theorem stripe_emb (t : Fin k0_t1_loop.trips) (y : S16.Idx) : (((stripe t).emb y) 0).val = 16 * t.val + (y 0).val := by
  rw [Rect.emb_apply]
  show k0_off1 t 0 + 1 * (y 0).val = _
  rw [k0_off1_eq]; simp

theorem zeroTo_step (t : Fin k0_t1_loop.trips) {f : Buf (Elt F) (Acc.view.loc (thr d L))} (h : ZeroTo d L Acc (16 * t.val) f) :
    ZeroTo d L Acc (16 * (t.val + 1)) ((Acc.access (stripe t)).write (Elt F) f (k0_pay5 (F := F)) Finset.univ) := by
  intro x hx
  by_cases hlt : (x 0).val < 16 * t.val
  · rw [View.read_apply, View.write_of_not_mem, ← View.read_apply, h x hlt]
    intro hm
    obtain ⟨y, -, hy⟩ := Finset.mem_map.mp hm
    have h1 : (stripe t).emb y = x := Acc.view.emb.injective hy
    have h2 := stripe_emb t y
    rw [h1] at h2
    omega
  · have h1 : x = (stripe t).emb (fun | 0 => ⟨(x 0).val - 16 * t.val, by change _ < 16; omega⟩ : S16.Idx) := by
      funext a
      match a with
      | 0 => exact Fin.ext (by rw [stripe_emb]; show (x 0).val = 16 * t.val + ((x 0).val - 16 * t.val); omega)
    rw [h1]
    exact congrFun (View.read_write_univ (v := Acc.access (stripe t)) f (k0_pay5 (F := F))) _

/-- One trip of the zeroing loop. -/
theorem wp_zero_trip (t : Fin k0_t1_loop.trips) {hl : Acc.view.LoadsAt (stripe t).toLoadRect} {hx : (Acc.access (stripe t)).Stores Finset.univ}
    {hm : (Finset.univ : Finset S16.Idx) = Finset.univ ∨ ∀ a, (stripe t).stride a = 1} :
    iprop(∃ f, ⌜ZeroTo d L Acc (16 * t.val) f⌝ ∗ Acc.view.loc (thr d L) ↦[Acc.view.set]{fullShare} f)
      ⊢ wp frame (wpE (defs₀ (F := F)) 𝒱₀ (thr d L) none) Set.univ
          (.op (.load Acc (stripe t).toLoadRect hl) fun _ =>
            .op (.store Acc (stripe t) (k0_pay5 (F := F)) Finset.univ hx hm) fun _ => .ret 0#32 : TileProg F d L (BitVec 32))
          fun _ => (iprop(∃ f, ⌜ZeroTo d L Acc (16 * (t.val + 1)) f⌝ ∗ Acc.view.loc (thr d L) ↦[Acc.view.set]{fullShare} f) : sProp 𝕄) := by
  iintro ⟨%f, %hf, H⟩
  iapply (wp_load_rect (Lvl := ℕ) (U := UU) (defs := defs₀ (F := F)) 𝒱₀ (thr d L) none Set.univ (m := Acc) (r := stripe t) (View.set_slice_subset _ _)) $$ H
  iintro H
  iapply (wp_store (Lvl := ℕ) (U := UU) (defs := defs₀ (F := F)) 𝒱₀ (thr d L) none Set.univ (m := Acc) (r := stripe t) (Mk := Finset.univ) (hx := hx) (hm := hm)
    (S := Acc.view.set) (View.set_slice_subset _ _)) $$ H
  iintro H
  rw [wp_ret]
  imodintro
  iexists _
  isplitr
  · ipureintro; exact zeroTo_step d L Acc t hf
  · iexact H

/-- The zeroing loop. -/
theorem wp_zero_loop {body : Fin k0_t1_loop.trips → BitVec 32 → TileProg F d L (BitVec 32)} {α : Type} {kk : BitVec 32 → TileProg F d L α} {Q : α → sProp 𝕄}
    (hbody : ∀ (t : Fin k0_t1_loop.trips) (a : BitVec 32),
      iprop(∃ f, ⌜ZeroTo d L Acc (16 * t.val) f⌝ ∗ Acc.view.loc (thr d L) ↦[Acc.view.set]{fullShare} f)
        ⊢ wp frame (wpE (defs₀ (F := F)) 𝒱₀ (thr d L) none) Set.univ (body t a)
          fun _ => (iprop(∃ f, ⌜ZeroTo d L Acc (16 * (t.val + 1)) f⌝ ∗ Acc.view.loc (thr d L) ↦[Acc.view.set]{fullShare} f) : sProp 𝕄)) :
    iprop(∃ f, Acc.view.loc (thr d L) ↦[Acc.view.set]{fullShare} f)
      ⊢ iprop((∀ a, Held Acc d L (fun _ => Scalar.ofBits .f32 0x00000000#32) -∗ wp frame (wpE (defs₀ (F := F)) 𝒱₀ (thr d L) none) Set.univ (kk a) Q)
        -∗ wp frame (wpE (defs₀ (F := F)) 𝒱₀ (thr d L) none) Set.univ (Scf.Loop.for k0_t1_loop k0_t1_ok 0#32 body >>= kk) Q) := by
  iintro ⟨%f, H⟩ Hk
  iapply (Scf.wp_for_bind _ _ _ k0_t1_loop.lb k0_t1_loop.ub k0_t1_loop.st k0_t1_ok 0#32 body
    (fun n _ => iprop(∃ f, ⌜ZeroTo d L Acc (16 * n) f⌝ ∗ Acc.view.loc (thr d L) ↦[Acc.view.set]{fullShare} f)) hbody) $$ [H]
  · iexists f
    isplitr; · ipureintro; intro x hx; exact absurd hx (Nat.not_lt_zero _)
    iexact H
  iintro %a ⟨%f, %hf, H⟩
  iapply Hk
  unfold Held
  iexists f
  isplitr
  · ipureintro
    funext x
    have h0 : (x 0).val < 80000 := (x 0).isLt
    exact hf x (lt_of_lt_of_eq h0 (by show 80000 = 16 * k0_t1_loop.trips; rw [trips_zero]))
  · iexact H

end Zero

/-! ## Adding one buffer -/

section Adding

variable (B1 : Memref sig .scVector .vmem S500x8 .i32) (B2 : Memref sig .scVector .vmem S500x8 .f32) (Acc : Memref sig .scVector .vmem S80000 .f32)

theorem emb_wholeRect (s : Shape) (x : s.Idx) : (Rect.whole s).emb x = x := by
  funext a; exact Fin.ext (by simp)

theorem read_whole_access {sp : CoreSpace} {s : Shape} {e : EltTy} (m : Memref sig .scVector sp s e) (f : m.view.ty.Contents (Elt F)) :
    (m.access (.whole s)).read (Elt F) f = m.view.read (Elt F) f := by
  funext x
  show m.view.read (Elt F) f ((Rect.whole s).emb x) = _
  rw [emb_wholeRect]

theorem set_whole_access {sp : CoreSpace} {s : Shape} {e : EltTy} (m : Memref sig .scVector sp s e) : (m.access (.whole s)).set = m.view.set := by
  refine Finset.Subset.antisymm (View.set_slice_subset _ _) fun x hx => ?_
  obtain ⟨y, -, rfl⟩ := Finset.mem_map.mp hx
  refine Finset.mem_map.mpr ⟨y, Finset.mem_univ _, ?_⟩
  show m.view.emb ((Rect.whole s).emb y) = _
  rw [emb_wholeRect]

theorem storeIdx_putStep [FloatOps F] (g : S80000.Idx → Elt F .f32) (iv : IVec S16 32) (v : S16.Idx → Elt F .f32)
    (h : ∀ (a : Fin S80000.rank) x, ((![iv] : Fin 1 → IVec S16 32) a x).toNat < S80000.size a) :
    storeIdx g ![iv] v (fun _ => 1#1) true h = putStep g iv v := (dif_pos h).symm

/-- One step of the adding loop, over whatever its two checks are called. -/
def addStep [FloatOps F] (P1 : Prop) (dec1 : Decidable P1) (P2 : IVec S16 32 → Prop) (dec2 : ∀ v, Decidable (P2 v)) (rv cv base : IVec S16 32)
    (p1 p1' : P1 → ∀ (a : Fin S500x8.rank) x, ((![rv, cv] : Fin 2 → IVec S16 32) a x).toNat < S500x8.size a)
    (p2 : ∀ v, P2 v → ∀ (a : Fin S80000.rank) x, ((![v] : Fin 1 → IVec S16 32) a x).toNat < S80000.size a)
    (l1 : B1.view.Loads) (l2 : B2.view.Loads) (s : (Acc.access (.whole S80000)).Stores Finset.univ) : TileProg F d L Unit := do
  let h ← Prog.lift (TpuEff.assume P1 dec1)
  let v259 : Vec F S16 .i32 ← SparseCore.vectorLoadIdx B1 ![rv, cv] (p1 h.down) l1
  let v260 : Vec F S16 .f32 ← SparseCore.vectorLoadIdx B2 ![rv, cv] (p1' h.down) l2
  let h2 ← Prog.lift (TpuEff.assume (P2 (addi v259 base)) (dec2 _))
  SparseCore.vectorStoreIdx Acc ![addi v259 base] v260 (fun _ => 1#1) true (p2 _ h2.down) s
  pure ⟨⟩

theorem lane_lt (x : S16.Idx) : (x 0).val < 16 := (x 0).isLt

theorem toNat_small {n : ℕ} (h : n < 2 ^ 32) : (BitVec.ofNat 32 n).toNat = n := by rw [BitVec.toNat_ofNat]; exact Nat.mod_eq_of_lt h

theorem pair_inb {t : ℕ} (ht : t < 250) : ∀ (a : Fin S500x8.rank) (x : S16.Idx),
    ((![fun x => BitVec.ofNat 32 ((x 0).val / 8 + 2 * t), fun x => BitVec.ofNat 32 ((x 0).val % 8)] : Fin 2 → IVec S16 32) a x).toNat < S500x8.size a := by
  intro a x
  have hx := lane_lt x
  match a with
  | 0 => show (BitVec.ofNat 32 ((x 0).val / 8 + 2 * t)).toNat < 500; rw [toNat_small (by omega)]; omega
  | 1 => show (BitVec.ofNat 32 ((x 0).val % 8)).toNat < 8; rw [toNat_small (by omega)]; omega

/-- The lanes read off a chunk are the lanes of the array two rows on at each step. -/
theorem loadIdx_chunk {e : EltTy} (a : S320000x128.Idx → Elt F e) {R C t : ℕ} (ht : t < 250) (rv cv : IVec S16 32)
    (hr : rv = fun x => BitVec.ofNat 32 ((x 0).val / 8 + 2 * t)) (hc : cv = fun x => BitVec.ofNat 32 ((x 0).val % 8))
    (h : ∀ (b : Fin S500x8.rank) x, ((![rv, cv] : Fin 2 → IVec S16 32) b x).toNat < S500x8.size b) :
    loadIdx (chunk a R C) ![rv, cv] h = lanes a (R + 2 * t) C := by
  subst hr; subst hc
  funext x
  have hx := lane_lt x
  show a (at2 (R + (BitVec.ofNat 32 ((x 0).val / 8 + 2 * t)).toNat) (C + (BitVec.ofNat 32 ((x 0).val % 8)).toNat)) = _
  rw [toNat_small (by omega), toNat_small (by omega)]
  unfold lanes
  congr 2; omega

theorem target_inb (idx : S320000x128.Idx → BitVec 32) (hidx : ∀ y, (idx y).toNat < 10000) (R C : ℕ) :
    ∀ (a : Fin S80000.rank) x, ((![target idx R C] : Fin 1 → IVec S16 32) a x).toNat < S80000.size a := by
  intro a x
  obtain rfl : a = 0 := Subsingleton.elim _ _
  show (lanes idx R C x + BitVec.ofNat 32 ((x 0).val % 8 * 10000)).toNat < 80000
  have h1 : (lanes idx R C x).toNat < 10000 := hidx _
  have hx := lane_lt x
  rw [BitVec.toNat_add, toNat_small (by omega)]
  refine lt_of_le_of_lt (Nat.mod_le _ _) ?_
  omega

variable [FloatOps F]

/-- One step of the adding loop takes the accumulator to `putStep`. -/
theorem wp_addStep {P1 : Prop} {dec1 : Decidable P1} {P2 : IVec S16 32 → Prop} {dec2 : ∀ v, Decidable (P2 v)} {rv cv base : IVec S16 32}
    {p1 p1' : P1 → ∀ (a : Fin S500x8.rank) x, ((![rv, cv] : Fin 2 → IVec S16 32) a x).toNat < S500x8.size a}
    {p2 : ∀ v, P2 v → ∀ (a : Fin S80000.rank) x, ((![v] : Fin 1 → IVec S16 32) a x).toNat < S80000.size a}
    {l1 : B1.view.Loads} {l2 : B2.view.Loads} {s : (Acc.access (.whole S80000)).Stores Finset.univ}
    {t : ℕ} (ht : t < 250)
    (hr : rv = fun x => BitVec.ofNat 32 ((x 0).val / 8 + 2 * t)) (hc : cv = fun x => BitVec.ofNat 32 ((x 0).val % 8))
    (hb : base = fun x => BitVec.ofNat 32 ((x 0).val % 8 * 10000))
    (h1 : (∀ (a : Fin S500x8.rank) x, ((![rv, cv] : Fin 2 → IVec S16 32) a x).toNat < S500x8.size a) → P1)
    (h2 : ∀ v, (∀ (a : Fin S80000.rank) x, ((![v] : Fin 1 → IVec S16 32) a x).toNat < S80000.size a) → P2 v)
    (idx : S320000x128.Idx → BitVec 32) (src : S320000x128.Idx → Elt F .f32) (hidx : ∀ y, (idx y).toNat < 10000) (R C : ℕ) (g : S80000.Idx → Elt F .f32) :
    iprop(Held Acc d L g ∗ Held (F := F) B1 d L (chunk idx R C) ∗ Held B2 d L (chunk src R C))
      ⊢ wp frame (wpE (defs₀ (F := F)) 𝒱₀ (thr d L) none) Set.univ (addStep d L B1 B2 Acc P1 dec1 P2 dec2 rv cv base p1 p1' p2 l1 l2 s)
          fun _ => iprop(Held Acc d L (putStep g (target idx (R + 2 * t) C) (lanes src (R + 2 * t) C)) ∗ Held (F := F) B1 d L (chunk idx R C) ∗ Held B2 d L (chunk src R C)) := by
  have hP1 : P1 := h1 (by rw [hr, hc]; exact pair_inb ht)
  unfold addStep Held
  simp only [Prog.lift, Prog.bind_op, Prog.bind_ret, Prog.pure_eq_ret]
  iintro ⟨⟨%fa, %hfa, Ha⟩, ⟨%f1, %hf1, H1⟩, %f2, %hf2, H2⟩
  have e1 : loadIdx ((B1.access (.whole S500x8)).read (Elt F) f1) ![rv, cv] (p1 hP1) = lanes idx (R + 2 * t) C := by
    rw [read_whole_access, hf1]; exact loadIdx_chunk (F := F) (e := .i32) idx ht rv cv hr hc _
  have e2 : loadIdx ((B2.access (.whole S500x8)).read (Elt F) f2) ![rv, cv] (p1' hP1) = lanes src (R + 2 * t) C := by
    rw [read_whole_access, hf2]; exact loadIdx_chunk src ht rv cv hr hc _
  have e3 : addi (loadIdx ((B1.access (.whole S500x8)).read (Elt F) f1) ![rv, cv] (p1 hP1)) base = target idx (R + 2 * t) C := by rw [e1, hb]; rfl
  have hP2 : P2 (addi (loadIdx ((B1.access (.whole S500x8)).read (Elt F) f1) ![rv, cv] (p1 hP1)) base) := h2 _ (by rw [e3]; exact target_inb idx hidx _ C)
  iapply (wp_assume 𝒱₀ (thr d L) none Set.univ hP1)
  iapply (SparseCore.wp_vectorLoadIdx (defs := defs₀ (F := F)) 𝒱₀ (thr d L) none Set.univ (base := B1) (S := B1.view.set) (View.set_slice_subset _ _)) $$ H1
  iintro H1
  iapply (SparseCore.wp_vectorLoadIdx (defs := defs₀ (F := F)) 𝒱₀ (thr d L) none Set.univ (base := B2) (S := B2.view.set) (View.set_slice_subset _ _)) $$ H2
  iintro H2
  iapply (wp_assume 𝒱₀ (thr d L) none Set.univ hP2)
  ihave Ha' := (Entails.of_eq (show (Acc.view.loc (thr d L) ↦[Acc.view.set]{fullShare} fa : sProp 𝕄)
    = ((Acc.access (.whole S80000)).loc (thr d L) ↦[(Acc.access (.whole S80000)).set]{fullShare} fa) from by rw [set_whole_access])) $$ Ha
  iapply (SparseCore.wp_vectorStoreIdx (defs := defs₀ (F := F)) 𝒱₀ (thr d L) none Set.univ (base := Acc)) $$ Ha'
  iintro Ha
  rw [wp_ret]
  imodintro
  isplitl [Ha]
  · iexists _
    isplitr
    rotate_left
    · ihave Ha' := (Entails.of_eq (show ((Acc.access (.whole S80000)).loc (thr d L) ↦[(Acc.access (.whole S80000)).set]{fullShare} _ : sProp 𝕄)
        = (Acc.view.loc (thr d L) ↦[Acc.view.set]{fullShare} _) from by rw [set_whole_access])) $$ Ha
      iexact Ha'
    · ipureintro
      rw [← read_whole_access, View.read_write_univ, storeIdx_putStep, read_whole_access, hfa, e3, e2]
  isplitl [H1]
  · iexists f1
    isplitr; · ipureintro; exact hf1
    iexact H1
  · iexists f2
    isplitr; · ipureintro; exact hf2
    iexact H2

/-- The adding loop over one buffer, which holds the rows from `R0 + 2 * n`: the accumulator goes on from `n` steps to `n + 250`. -/
theorem wp_add_loop {l : Scf.Loop 32} {hok : l.OK} (hl : l.trips = 250) {body : Fin l.trips → Unit → TileProg F d L Unit}
    {α : Type} {kk : Unit → TileProg F d L α} {Q : α → sProp 𝕄}
    (idx : S320000x128.Idx → BitVec 32) (src : S320000x128.Idx → Elt F .f32) {R0 R C n : ℕ} (hR : R = R0 + 2 * n)
    (hbody : ∀ (t : Fin l.trips) (u : Unit) (g : S80000.Idx → Elt F .f32),
      iprop(Held Acc d L g ∗ Held (F := F) B1 d L (chunk idx R C) ∗ Held B2 d L (chunk src R C))
        ⊢ wp frame (wpE (defs₀ (F := F)) 𝒱₀ (thr d L) none) Set.univ (body t u)
          fun _ => iprop(Held Acc d L (putStep g (target idx (R + 2 * t.val) C) (lanes src (R + 2 * t.val) C))
            ∗ Held (F := F) B1 d L (chunk idx R C) ∗ Held B2 d L (chunk src R C))) :
    iprop(Held Acc d L (accAt idx src R0 C n) ∗ Held (F := F) B1 d L (chunk idx R C) ∗ Held B2 d L (chunk src R C))
      ⊢ iprop((iprop(Held Acc d L (accAt idx src R0 C (n + 250)) ∗ Held (F := F) B1 d L (chunk idx R C) ∗ Held B2 d L (chunk src R C))
          -∗ wp frame (wpE (defs₀ (F := F)) 𝒱₀ (thr d L) none) Set.univ (kk ⟨⟩) Q)
        -∗ wp frame (wpE (defs₀ (F := F)) 𝒱₀ (thr d L) none) Set.univ (Scf.Loop.for l hok ⟨⟩ body >>= kk) Q) := by
  iintro H Hk
  iapply (Scf.wp_for_bind _ _ _ l.lb l.ub l.st hok ⟨⟩ body
    (fun t _ => iprop(Held Acc d L (accAt idx src R0 C (n + t)) ∗ Held (F := F) B1 d L (chunk idx R C) ∗ Held B2 d L (chunk src R C)))
    (fun t u => by
      refine (hbody t u _).trans (wp_mono frame _ _ fun _ => ?_)
      rw [← Nat.add_assoc, accAt, hR, show R0 + 2 * (n + t.val) = R0 + 2 * n + 2 * t.val by omega])) $$ [H]
  · iexact H
  iintro %a H
  rw [show Scf.trips l.lb l.ub l.st = 250 from hl]
  iapply Hk
  iexact H

end Adding

end Cert.Proof.Scatter

end
-- ==== Proof.Out.lean ====
/-
  Writing one column out: a transfer of 10000 entries of the accumulator into a row of a transposed output, and its wait.
  The tile holds its part of the output throughout (`OutTo`: the rows below `n` are final).
-/
module

public import proofs.«01_k».proof.Proof.Compute

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (d : Dev nD) (L : grid0.Coords)
variable (O : Memref sig .scVector .hbm S128x10000 .f32) (Acc : Memref sig .scVector .vmem S80000 .f32) (sm : DmaSem sig)

/-- The part `S` of the output, its rows below `n` at `p`. -/
def OutTo (S : Finset (Idx (O.view.loc (thr d L)))) (p : S128x10000.Idx → Elt F .f32) (n : ℕ) : sProp 𝕄 :=
  iprop(∃ f, ⌜∀ x, O.view.emb x ∈ S → (x 0).val < n → O.view.read (Elt F) f x = p x⌝ ∗ O.view.loc (thr d L) ↦[S]{fullShare} f)

abbrev rowRect (o : Fin 2 → ℕ) (h : ∀ a, o a + S1x10000.size a ≤ S128x10000.size a) : Rect S128x10000 := Rect.unit (s := S128x10000) o S1x10000.size h
abbrev rowOut (o : Fin 2 → ℕ) (h : ∀ a, o a + S1x10000.size a ≤ S128x10000.size a) : Memref sig .scVector .hbm S10000 .f32 :=
  (O.slice (rowRect o h) (fun _ => rfl)).squeeze S10000 squeezes_S1x10000_S10000
abbrev group (o : Fin 1 → ℕ) (h : ∀ a, o a + S10000.size a ≤ S80000.size a) : Memref sig .scVector .vmem S10000 .f32 :=
  Acc.slice (Rect.unit (s := S80000) o S10000.size h) (fun _ => rfl)

/-- The element of the output an entry of the row goes to. -/
theorem rowOut_emb {o : Fin 2 → ℕ} {h} {n : ℕ} (ho : o = ![n, 0]) (y : S10000.Idx) (x : S128x10000.Idx) (hx : (x 0).val = n) (hy : (x 1).val = (y 0).val) :
    (rowOut O o h).view.emb y = O.view.emb x := by
  show O.view.emb ((rowRect o h).emb (Shape.reshapeEquiv squeezes_S1x10000_S10000.numel_eq y)) = _
  have e : (Shape.reshapeEquiv squeezes_S1x10000_S10000.numel_eq y : S1x10000.Idx) = Fin.cons ⟨0, Nat.one_pos⟩ y := Shape.reshapeEquiv_cons_one _ y
  refine congrArg _ ?_
  subst ho
  funext a
  match a with
  | 0 => exact Fin.ext (by rw [Rect.emb_apply]; show n + 1 * (Shape.reshapeEquiv squeezes_S1x10000_S10000.numel_eq y 0).val = _; rw [e, hx]; rfl)
  | 1 => exact Fin.ext (by rw [Rect.emb_apply]; show 0 + 1 * (Shape.reshapeEquiv squeezes_S1x10000_S10000.numel_eq y 1).val = _; rw [e, hy]; show 0 + 1 * (y 0).val = _; omega)

/-- The row read as an element of the output has its row number. -/
theorem rowOut_set {o : Fin 2 → ℕ} {h} {n : ℕ} (hn : n < 128) (ho : o = ![n, 0]) (x : S128x10000.Idx) : O.view.emb x ∈ (rowOut O o h).view.set ↔ (x 0).val = n := by
  constructor
  · intro hm
    obtain ⟨y, -, hy⟩ := Finset.mem_map.mp hm
    rw [rowOut_emb O ho y (fun | 0 => ⟨n, hn⟩ | 1 => ⟨(y 0).val, (y 0).isLt⟩) rfl rfl] at hy
    rw [← O.view.emb.injective hy]
  · intro hx
    refine Finset.mem_map.mpr ⟨(fun | 0 => ⟨(x 1).val, (x 1).isLt⟩ : S10000.Idx), Finset.mem_univ _, rowOut_emb O ho _ x hx rfl⟩

theorem row_lands {o : Fin 2 → ℕ} {h} {n : ℕ} (hn : n < 128) (ho : o = ![n, 0]) {oa : Fin 1 → ℕ} {ha} {r : ℕ} (hoa : oa = ![r * 10000]) (hr : r < 8)
    {S : Finset (Idx (O.view.loc (thr d L)))} {p : S128x10000.Idx → Elt F .f32} {g : S80000.Idx → Elt F .f32} (hp : ∀ x, (x 0).val = n → p x = g (slot r (x 1).val))
    {f : Buf (Elt F) (O.view.loc (thr d L))} (hf : ∀ x, O.view.emb x ∈ S → (x 0).val < n → O.view.read (Elt F) f x = p x)
    {fa : Buf (Elt F) (Acc.view.loc (thr d L))} (hfa : Acc.view.read (Elt F) fa = g) :
    ∀ x, O.view.emb x ∈ S → (x 0).val < n + 1 → O.view.read (Elt F) ((rowOut O o h).view.write (Elt F) f ((group Acc oa ha).view.read (Elt F) fa) Finset.univ) x = p x := by
  intro x hx hlt
  by_cases he : (x 0).val = n
  · rw [View.read_apply, ← rowOut_emb O (h := h) ho (fun | 0 => ⟨(x 1).val, (x 1).isLt⟩ : S10000.Idx) x he rfl, View.write_emb_of_mem _ _ (Finset.mem_univ _), hp x he, ← hfa]
    show cast _ (cast _ (Acc.view.read (Elt F) fa _)) = _
    rw [cast_cast, cast_eq]
    refine congrArg _ ?_
    subst hoa
    funext a
    match a with
    | 0 =>
      have h1 : (x 1).val < 10000 := (x 1).isLt
      refine Fin.ext ?_
      rw [Rect.emb_apply]
      show r * 10000 + 1 * (x 1).val = (r * 10000 + (x 1).val) % 80000
      omega
  · rw [View.read_apply, View.write_of_not_mem, ← View.read_apply]
    · exact hf x hx (by omega)
    · exact fun hm => he ((rowOut_set O hn ho x).mp hm)

variable [FloatOps F]

/-- What the transfer delivers: the tile's part of the output, and the accumulator's elements it read. -/
def outBack (S : Finset (Idx (O.view.loc (thr d L)))) (f : Buf (Elt F) (O.view.loc (thr d L))) (I : Finset (Idx (Acc.view.loc (thr d L))))
    (fa : Buf (Elt F) (Acc.view.loc (thr d L))) : Fin 1 → sProp 𝕄 :=
  fun _ => iprop((O.view.loc (thr d L) ↦[S]{fullShare} f) ∗ (Acc.view.loc (thr d L) ↦[I]{fullShare} fa))

instance outBack_storable (S : Finset (Idx (O.view.loc (thr d L)))) (f : Buf (Elt F) (O.view.loc (thr d L))) (I : Finset (Idx (Acc.view.loc (thr d L))))
    (fa : Buf (Elt F) (Acc.view.loc (thr d L))) (t : Fin 1) : BI.Storable (upEmb : UEmb _ 𝕄) (outBack d L O Acc S f I fa t) := by
  unfold outBack; infer_instance

/-- One column written out. -/
theorem wp_column {o : Fin 2 → ℕ} {h : ∀ a, o a + S1x10000.size a ≤ S128x10000.size a} {n : ℕ} (hn : n < 128) (ho : o = ![n, 0])
    {oa : Fin 1 → ℕ} {ha : ∀ a, oa a + S10000.size a ≤ S80000.size a} {r : ℕ} (hoa : oa = ![r * 10000]) (hr : r < 8)
    {S : Finset (Idx (O.view.loc (thr d L)))} (hS : ∀ x, (x 0).val = n → O.view.emb x ∈ S)
    {p : S128x10000.Idx → Elt F .f32} {g : S80000.Idx → Elt F .f32} (hp : ∀ x, (x 0).val = n → p x = g (slot r (x 1).val))
    {Ow : CellTallies nD τ sig (HIx 1)} {W : Waits sig (HIx 1)} (hO : ∀ g, Ow g none = 0)
    {w1 : (group Acc oa ha).view.WordExact} {v1 : (rowOut O o h).view.WordExact} {w2 : (group Acc oa ha).view.WordExact} {v2 : (rowOut O o h).view.WordExact}
    {t1 : (DmaTarget.here (rowOut O o h) : DmaTarget nD τ sig (thr d L).2 .hbm S10000 .f32).Typed .vmem (.dma sm)}
    {α : Type} {k : PUnit → TileProg F d L α} {Q : α → sProp 𝕄} :
    iprop(levAts (K (F := F)).L (K (F := F)).lev ∗ semVal (thr d L, .dma sm) 0 ∗ OutTo d L O S p n ∗ Held Acc d L g ∗ owes (thr d L) Ow W)
      ⊢ iprop((iprop(semVal (thr d L, .dma sm) 0 ∗ OutTo d L O S p (n + 1) ∗ Held Acc d L g ∗ owes (thr d L) Ow (insert (SemLoc.dma sm, none) W))
          -∗ wp frame (wpE (defs₀ (F := F)) 𝒱₀ (thr d L) none) Set.univ (k ⟨⟩) Q)
        -∗ wp frame (wpE (defs₀ (F := F)) 𝒱₀ (thr d L) none) Set.univ
          (.op (.enqueueDma (group Acc oa ha) (.here (rowOut O o h)) (.dma sm) w1 v1 t1) fun _ =>
            .op (.waitDma2 sm (group Acc oa ha) (rowOut O o h) w2 v2) k) Q) := by
  unfold OutTo Held
  iintro ⟨#Hlv, Hs, ⟨%f, %hf, Ho⟩, ⟨%fa, %hfa, Ha⟩, HO⟩ Hk
  have hsub : (group Acc oa ha).view.set ⊆ Acc.view.set := View.set_slice_subset _ _
  have hdst : (rowOut O o h).view.set ⊆ S := by
    intro z hz
    obtain ⟨y, -, rfl⟩ := Finset.mem_map.mp hz
    rw [rowOut_emb O ho y (fun | 0 => ⟨n, hn⟩ | 1 => ⟨(y 0).val, (y 0).isLt⟩) rfl rfl]
    exact hS _ rfl
  have hpos : 0 < (rowOut O o h).view.dmaCredit := View.dmaCredit_pos _ (by decide)
  imod (Transfers.batch_alloc' (Lvl := ℕ) EC (thr d L) none (rowOut O o h).view.dmaCredit
    (outBack d L O Acc S ((rowOut O o h).view.write (Elt F) f ((group Acc oa ha).view.read (Elt F) fa) Finset.univ) (group Acc oa ha).view.set fa)
    (sm := .dma sm) (E := Set.univ)) $$ Hs with HB
  ihave Ha' := (pointsTo_split_subset hsub) $$ Ha
  icases Ha' with ⟨Ha, Hr⟩
  iapply (Transfers.wp_dmaBatch EC 𝒱₀ (thr d L) none (src := group Acc oa ha) (dst := rowOut O o h) (fs := fa) (fd := f) none (rowOut O o h).view.dmaCredit rfl hdst
    (D := outBack d L O Acc S ((rowOut O o h).view.write (Elt F) f ((group Acc oa ha).view.read (Elt F) fa) Finset.univ) (group Acc oa ha).view.set fa)
    (j := 0) (u := 0) (by decide) (Nat.zero_le _) ?hD) $$ [Ha Ho HB]
  case hD =>
    show iprop((O.view.loc (thr d L) ↦[S]{fullShare} (rowOut O o h).view.write (Elt F) f ((group Acc oa ha).view.read (Elt F) fa) Finset.univ)
      ∗ (Acc.view.loc (thr d L) ↦[(group Acc oa ha).view.set]{fullShare} fa)) ⊢ _
    unfold outBack
    exact Entails.rfl
  · isplitl [Ha]; · iexact Ha
    isplitl [Ho]; · iexact Ho
    iexact HB
  iintro HB
  iapply (Transfers.wp_waitBatchLastO EC 𝒱₀ (thr d L) none (srcw := group Acc oa ha) (dstw := rowOut O o h) (hsrc := w2) (hdst := v2) none
    (N := (rowOut O o h).view.dmaCredit) rfl hpos
    (D := outBack d L O Acc S ((rowOut O o h).view.write (Elt F) f ((group Acc oa ha).view.read (Elt F) fa) Finset.univ) (group Acc oa ha).view.set fa)
    (u := 0) (by omega)) $$ [HB HO]
  · isplitl [HB]; · iexact HB
    isplitl [HO]; · iexact HO
    iapply ((K (F := F)).mayWait_none (SemLoc.dma sm) hO); iexact Hlv
  iintro ⟨HD, Hs, HO⟩
  ihave HD' := (show bigSep Finset.univ (outBack d L O Acc S ((rowOut O o h).view.write (Elt F) f ((group Acc oa ha).view.read (Elt F) fa) Finset.univ) (group Acc oa ha).view.set fa)
      ⊢ iprop((O.view.loc (thr d L) ↦[S]{fullShare} ((rowOut O o h).view.write (Elt F) f ((group Acc oa ha).view.read (Elt F) fa) Finset.univ))
        ∗ (Acc.view.loc (thr d L) ↦[(group Acc oa ha).view.set]{fullShare} fa)) from by
    rw [bigSep_univ_eq_bigSepL [0] (by decide) (by decide)]; exact Entails.rfl) $$ HD
  icases HD' with ⟨Ho, Ha⟩
  iapply Hk
  isplitl [Hs]; · iexact Hs
  isplitl [Ho]
  · iexists _
    isplitr
    rotate_left
    · iexact Ho
    · ipureintro; exact row_lands d L O Acc hn ho hoa hr hp hf hfa
  isplitl [Ha Hr]
  · iexists fa
    isplitr; · ipureintro; exact hfa
    iapply (join_same hsub fullShare fa)
    isplitl [Ha]; · iexact Ha
    iexact Hr
  · iexact HO

end Cert.Proof.Scatter

end
-- ==== Proof.Turn.lean ====
/-
  One buffer at a symbolic tile: waited for, added into the accumulator,
  and sent for the next rows.
-/
module

public import proofs.«01_k».proof.Proof.Out

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords)
variable (A1 : Memref sig .scVector .hbm S320000x128 .i32) (A2 : Memref sig .scVector .hbm S320000x128 .f32) (Acc : Memref sig .scVector .vmem S80000 .f32)

/-! ## One buffer's turn -/

section Turn

variable (B : Memref sig .scVector .vmem S500x8 .i32) (D : Memref sig .scVector .vmem S500x8 .f32) (s t : DmaSem sig)
variable (q0 q1 : PosShare TreeShare) (f1 : Buf (Elt F) (aLoc A1 d L)) (f2 : Buf (Elt F) (aLoc A2 d L))

/-- Both pairs of a buffer under way, and both at rest. -/
def Fly (R C : ℕ) : sProp 𝕄 := iprop(Flying A1 B s d L q0 q1 f1 R C ∗ Flying A2 D t d L q0 q1 f2 R C)
def Idle : sProp 𝕄 := iprop(Free A1 B s d L q0 q1 f1 ∗ Free A2 D t d L q0 q1 f2)

/-- Buffer `b` at the head of trip `n`: its rows are on their way, until there are none. -/
def Buffer (b n : ℕ) : sProp 𝕄 :=
  if n < 80 then Fly d L A1 A2 B D s t q0 q1 f1 f2 (rowOf L + 500 * (4 * n + b)) (colOf L) else Idle d L A1 A2 B D s t q0 q1 f1 f2

/-- The waits recorded are among those at the start, or carry no cell. -/
def Owing (O : CellTallies nD τ sig (HIx 1)) (W : Waits sig (HIx 1)) : sProp 𝕄 :=
  iprop(∃ W', ⌜∀ p ∈ W', p ∈ W ∨ p.2 = none⌝ ∗ owes (thr d L) O W')

theorem owing_insert {O : CellTallies nD τ sig (HIx 1)} {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact Or.inr rfl
  · exact h p hp

/-- A buffer sent for the rows from `R`. -/
theorem wp_send {R C : ℕ} {o1 o2 : Fin 2 → ℕ} {h1 h2 h3 h4} (ho1 : o1 = ![R, C]) (ho2 : o2 = ![R + 250, C])
    {w1 : (win A1 o1 h1).view.WordExact} {w2 : (win A1 o2 h2).view.WordExact} {v1 : (top B).view.WordExact} {v2 : (bot B).view.WordExact}
    {w3 : (win A2 o1 h3).view.WordExact} {w4 : (win A2 o2 h4).view.WordExact} {v3 : (top D).view.WordExact} {v4 : (bot D).view.WordExact}
    {t1 : (DmaTarget.here (top B) : DmaTarget nD τ sig (thr d L).2 .vmem S250x8 .i32).Typed .hbm (.dma s)}
    {t2 : (DmaTarget.here (bot B) : DmaTarget nD τ sig (thr d L).2 .vmem S250x8 .i32).Typed .hbm (.dma s)}
    {t3 : (DmaTarget.here (top D) : DmaTarget nD τ sig (thr d L).2 .vmem S250x8 .f32).Typed .hbm (.dma t)}
    {t4 : (DmaTarget.here (bot D) : DmaTarget nD τ sig (thr d L).2 .vmem S250x8 .f32).Typed .hbm (.dma t)}
    {α : Type} {k : PUnit → TileProg F d L α} {Q : α → sProp 𝕄} :
    Idle d L A1 A2 B D s t q0 q1 f1 f2
      ⊢ iprop((Fly d L A1 A2 B D s t q0 q1 f1 f2 R C -∗ wp frame (wpE (defs₀ (F := F)) 𝒱₀ (thr d L) none) Set.univ (k ⟨⟩) Q)
        -∗ wp frame (wpE (defs₀ (F := F)) 𝒱₀ (thr d L) none) Set.univ
          (.op (.enqueueDma (win A1 o1 h1) (.here (top B)) (.dma s) w1 v1 t1) fun _ =>
            .op (.enqueueDma (win A1 o2 h2) (.here (bot B)) (.dma s) w2 v2 t2) fun _ =>
            .op (.enqueueDma (win A2 o1 h3) (.here (top D)) (.dma t) w3 v3 t3) fun _ =>
            .op (.enqueueDma (win A2 o2 h4) (.here (bot D)) (.dma t) w4 v4 t4) k) Q) := by
  unfold Idle Fly
  iintro ⟨H1, H2⟩ Hk
  iapply (wp_issue A1 B s d L ho1 ho2) $$ H1
  iintro H1
  iapply (wp_issue A2 D t d L ho1 ho2) $$ H2
  iintro H2
  iapply Hk
  isplitl [H1]; · iexact H1
  iexact H2

/-- A buffer waited for and added in. -/
theorem wp_turn {l : Scf.Loop 32} {hok : l.OK} (hl : l.trips = 250) {body : Fin l.trips → Unit → TileProg F d L Unit}
    {O : CellTallies nD τ sig (HIx 1)} {W : Waits sig (HIx 1)} (hO : ∀ g, O g none = 0) {R0 R C n : ℕ} (hR : R = R0 + 2 * n)
    (hbody : ∀ (t : Fin l.trips) (u : Unit) (g : S80000.Idx → Elt F .f32),
      iprop(Held Acc d L g ∗ Held (F := F) B d L (chunk (A1.view.read (Elt F) f1) R C) ∗ Held D d L (chunk (A2.view.read (Elt F) f2) R C))
        ⊢ wp frame (wpE (defs₀ (F := F)) 𝒱₀ (thr d L) none) Set.univ (body t u)
          fun _ => iprop(Held Acc d L (putStep g (target (A1.view.read (Elt F) f1) (R + 2 * t.val) C) (lanes (A2.view.read (Elt F) f2) (R + 2 * t.val) C))
            ∗ Held (F := F) B d L (chunk (A1.view.read (Elt F) f1) R C) ∗ Held D d L (chunk (A2.view.read (Elt F) f2) R C)))
    {s1 s2 : Memref sig .scVector .hbm S250x8 .i32} {w1 : s1.view.WordExact} {w2 : s2.view.WordExact} {v1 : (top B).view.WordExact} {v2 : (bot B).view.WordExact}
    {s3 s4 : Memref sig .scVector .hbm S250x8 .f32} {w3 : s3.view.WordExact} {w4 : s4.view.WordExact} {v3 : (top D).view.WordExact} {v4 : (bot D).view.WordExact}
    {α : Type} {k : Unit → TileProg F d L α} {Q : α → sProp 𝕄} :
    iprop(levAts (K (F := F)).L (K (F := F)).lev ∗ Fly d L A1 A2 B D s t q0 q1 f1 f2 R C
        ∗ Held Acc d L (accAt (A1.view.read (Elt F) f1) (A2.view.read (Elt F) f2) R0 C n) ∗ Owing d L O W)
      ⊢ iprop((iprop(Idle d L A1 A2 B D s t q0 q1 f1 f2 ∗ Held Acc d L (accAt (A1.view.read (Elt F) f1) (A2.view.read (Elt F) f2) R0 C (n + 250)) ∗ Owing d L O W)
          -∗ wp frame (wpE (defs₀ (F := F)) 𝒱₀ (thr d L) none) Set.univ (k ⟨⟩) Q)
        -∗ wp frame (wpE (defs₀ (F := F)) 𝒱₀ (thr d L) none) Set.univ
          (.op (.waitDma2 s s1 (top B) w1 v1) fun _ => .op (.waitDma2 s s2 (bot B) w2 v2) fun _ =>
            .op (.waitDma2 t s3 (top D) w3 v3) fun _ => .op (.waitDma2 t s4 (bot D) w4 v4) fun _ =>
            (Scf.Loop.for l hok ⟨⟩ body >>= k)) Q) := by
  unfold Fly Owing
  iintro ⟨#Hlv, ⟨H1, H2⟩, Ha, %W', %hW, HO⟩ Hk
  iapply (wp_settle A1 B s d L hO) $$ [H1 HO]
  · isplitr; · iexact Hlv
    isplitl [H1]; · iexact H1
    iexact HO
  iintro ⟨H1, HO⟩
  iapply (wp_settle A2 D t d L hO) $$ [H2 HO]
  · isplitr; · iexact Hlv
    isplitl [H2]; · iexact H2
    iexact HO
  iintro ⟨H2, HO⟩
  unfold Full
  icases H1 with ⟨Hs1, Hb1, Hx1, Hy1⟩
  icases H2 with ⟨Hs2, Hb2, Hx2, Hy2⟩
  iapply (wp_add_loop d L B D Acc hl (A1.view.read (Elt F) f1) (A2.view.read (Elt F) f2) hR hbody) $$ [Ha Hb1 Hb2]
  · isplitl [Ha]; · iexact Ha
    isplitl [Hb1]; · iexact Hb1
    iexact Hb2
  iintro ⟨Ha, Hb1, Hb2⟩
  iapply Hk
  isplitl [Hs1 Hb1 Hx1 Hy1 Hs2 Hb2 Hx2 Hy2]
  · unfold Idle
    isplitl [Hs1 Hb1 Hx1 Hy1]
    · iapply (full_free A1 B s d L q0 q1 f1)
      unfold Full
      isplitl [Hs1]; · iexact Hs1
      isplitl [Hb1]; · iexact Hb1
      isplitl [Hx1]; · iexact Hx1
      iexact Hy1
    · iapply (full_free A2 D t d L q0 q1 f2)
      unfold Full
      isplitl [Hs2]; · iexact Hs2
      isplitl [Hb2]; · iexact Hb2
      isplitl [Hx2]; · iexact Hx2
      iexact Hy2
  isplitl [Ha]; · iexact Ha
  iexists _
  isplitr
  rotate_left
  · iexact HO
  · ipureintro; exact owing_insert (O := O) (owing_insert (O := O) hW _) _

end Turn

/-- The row numbers of the lanes at step `t` of a buffer. -/
theorem row_lanes {n : ℕ} (hn : n < 250) (v : IVec S16 32) (hv : v = fun x => BitVec.ofNat 32 ((x 0).val / 8)) :
    addi v (broadcast S16 (Scalar.muli (Scalar.addi 0#32 (Scalar.muli (Scf.iv 0#32 1#32 n) 1#32)) 2#32)) = fun x => BitVec.ofNat 32 ((x 0).val / 8 + 2 * n) := by
  subst hv
  funext x
  show BitVec.ofNat 32 ((x 0).val / 8) + (0#32 + (0#32 + BitVec.ofNat 32 n * 1#32) * 1#32) * 2#32 = _
  have h2 : (2#32 : BitVec 32) = BitVec.ofNat 32 2 := rfl
  rw [BitVec.mul_one, BitVec.mul_one, BitVec.zero_add, BitVec.zero_add, h2, ← BitVec.ofNat_mul, ← BitVec.ofNat_add, Nat.mul_comm n 2]

end Cert.Proof.Scatter

end
-- ==== Proof.Trip.lean ====
/-
  One trip of the main loop at a symbolic tile: each of the four buffers in turn is waited for, added into the accumulator,
  and sent for the next rows while there are any.
-/
module

public import proofs.«01_k».proof.Proof.Turn

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords)
variable (A1 : Memref sig .scVector .hbm S320000x128 .i32) (hA1 : A1.IsWhole) (A2 : Memref sig .scVector .hbm S320000x128 .f32) (hA2 : A2.IsWhole)
variable (O0 : Memref sig .scVector .hbm S128x10000 .f32) (hO0 : O0.IsWhole) (O1 : Memref sig .scVector .hbm S128x10000 .f32) (hO1 : O1.IsWhole)
variable (Acc : Memref sig .scVector .vmem S80000 .f32) (hAcc : Acc.IsWhole)
variable (B0 : Memref sig .scVector .vmem S500x8 .i32) (hB0 : B0.IsWhole) (B1 : Memref sig .scVector .vmem S500x8 .i32) (hB1 : B1.IsWhole)
variable (B2 : Memref sig .scVector .vmem S500x8 .i32) (hB2 : B2.IsWhole) (B3 : Memref sig .scVector .vmem S500x8 .i32) (hB3 : B3.IsWhole)
variable (D0 : Memref sig .scVector .vmem S500x8 .f32) (hD0 : D0.IsWhole) (D1 : Memref sig .scVector .vmem S500x8 .f32) (hD1 : D1.IsWhole)
variable (D2 : Memref sig .scVector .vmem S500x8 .f32) (hD2 : D2.IsWhole) (D3 : Memref sig .scVector .vmem S500x8 .f32) (hD3 : D3.IsWhole)
variable (s0 s1 s2 s3 t0 t1 t2 t3 c0 c1 c2 c3 c4 c5 c6 c7 c8 c9 c10 c11 c12 c13 c14 c15 : DmaSems sig S_)

/-! ## One trip -/

section Trip

variable (q : Fin 8 → PosShare TreeShare) (f1 : Buf (Elt F) (aLoc A1 d L)) (f2 : Buf (Elt F) (aLoc A2 d L))

/-- The tile's state at the head of trip `n`. -/
def Main (O : CellTallies nD τ sig (HIx 1)) (W : Waits sig (HIx 1)) (n : ℕ) : sProp 𝕄 :=
  iprop(Buffer d L A1 A2 B0 D0 s0.sem t0.sem (q 0) (q 1) f1 f2 0 n ∗
    Buffer d L A1 A2 B1 D1 s1.sem t1.sem (q 2) (q 3) f1 f2 1 n ∗
    Buffer d L A1 A2 B2 D2 s2.sem t2.sem (q 4) (q 5) f1 f2 2 n ∗
    Buffer d L A1 A2 B3 D3 s3.sem t3.sem (q 6) (q 7) f1 f2 3 n ∗
    Held Acc d L (accAt (A1.view.read (Elt F) f1) (A2.view.read (Elt F) f2) (rowOf L) (colOf L) (1000 * n)) ∗ Owing d L O W)

theorem wp_trip {O : CellTallies nD τ sig (HIx 1)} {W : Waits sig (HIx 1)} (hO : ∀ g, O g none = 0)
    (hidx : ∀ y, (A1.view.read (Elt F) f1 y).toNat < 10000) (v26 v30 : BitVec 32) {v50 v74 v76 : IVec S16 32}
    (hv50 : v50 = fun x => BitVec.ofNat 32 ((x 0).val % 8)) (hv74 : v74 = fun x => BitVec.ofNat 32 ((x 0).val / 8))
    (hv76 : v76 = fun x => BitVec.ofNat 32 ((x 0).val % 8 * 10000)) (n : Fin k0_t2_loop.trips) (a : BitVec 32) :
    iprop(levAts (K (F := F)).L (K (F := F)).lev ∗ Main d L A1 A2 Acc B0 B1 B2 B3 D0 D1 D2 D3 s0 s1 s2 s3 t0 t1 t2 t3 q f1 f2 O W n.val)
      ⊢ wp frame (wpE (defs₀ (F := F)) 𝒱₀ (thr d L) none) Set.univ
        (k0_t2_body L A1 hA1 A2 hA2 O0 hO0 O1 hO1 Acc hAcc B0 hB0 B1 hB1 B2 hB2 B3 hB3 D0 hD0 D1 hD1 D2 hD2 D3 hD3
    s0 s1 s2 s3 t0 t1 t2 t3 c0 c1 c2 c3 c4 c5 c6 c7 c8 c9 c10 c11 c12 c13 c14 c15 v26 v30 v50 v74 v76 n a)
        fun _ => Main d L A1 A2 Acc B0 B1 B2 B3 D0 D1 D2 D3 s0 s1 s2 s3 t0 t1 t2 t3 q f1 f2 O W (n.val + 1) := by
  have hn : n.val < 80 := lt_of_lt_of_eq n.isLt trips_main
  have hbody0 : ∀ (R C : ℕ) (t : Fin k0_t3_loop.trips) (u : Unit) (g : S80000.Idx → Elt F .f32),
      iprop(Held Acc d L g ∗ Held (F := F) B0 d L (chunk (A1.view.read (Elt F) f1) R C) ∗ Held D0 d L (chunk (A2.view.read (Elt F) f2) R C))
        ⊢ wp frame (wpE (defs₀ (F := F)) 𝒱₀ (thr d L) none) Set.univ
          (k0_t3_body L A1 hA1 A2 hA2 O0 hO0 O1 hO1 Acc hAcc B0 hB0 B1 hB1 B2 hB2 B3 hB3 D0 hD0 D1 hD1 D2 hD2 D3 hD3 s0 s1 s2 s3 t0 t1 t2 t3 c0 c1 c2 c3 c4 c5 c6 c7 c8 c9 c10 c11 c12 c13 c14 c15 v50 v74 v76 0#32 1#32 n t u)
          fun _ => iprop(Held Acc d L (putStep g (target (A1.view.read (Elt F) f1) (R + 2 * t.val) C) (lanes (A2.view.read (Elt F) f2) (R + 2 * t.val) C))
            ∗ Held (F := F) B0 d L (chunk (A1.view.read (Elt F) f1) R C) ∗ Held D0 d L (chunk (A2.view.read (Elt F) f2) R C)) := by
    intro R C t u g
    have ht : t.val < 250 := t.isLt
    exact wp_addStep d L B0 D0 Acc (p1 := k0_idx1_inb v50 (k0_pay1 v74 t)) (p1' := k0_idx2_inb v50 (k0_pay1 v74 t)) (p2 := k0_idx3_inb) (P2 := k0_chk2) ht (row_lanes ht _ hv74) hv50 hv76 (fun h => ⟨h, h⟩) (fun v h => h) _ _ hidx R C g
  have hbody1 : ∀ (v165 v : BitVec 32) (R C : ℕ) (t : Fin k0_t4_loop.trips) (u : Unit) (g : S80000.Idx → Elt F .f32),
      iprop(Held Acc d L g ∗ Held (F := F) B1 d L (chunk (A1.view.read (Elt F) f1) R C) ∗ Held D1 d L (chunk (A2.view.read (Elt F) f2) R C))
        ⊢ wp frame (wpE (defs₀ (F := F)) 𝒱₀ (thr d L) none) Set.univ
          (k0_t4_body L A1 hA1 A2 hA2 O0 hO0 O1 hO1 Acc hAcc B0 hB0 B1 hB1 B2 hB2 B3 hB3 D0 hD0 D1 hD1 D2 hD2 D3 hD3 s0 s1 s2 s3 t0 t1 t2 t3 c0 c1 c2 c3 c4 c5 c6 c7 c8 c9 c10 c11 c12 c13 c14 c15 v30 v50 v74 v76 n v165 v t u)
          fun _ => iprop(Held Acc d L (putStep g (target (A1.view.read (Elt F) f1) (R + 2 * t.val) C) (lanes (A2.view.read (Elt F) f2) (R + 2 * t.val) C))
            ∗ Held (F := F) B1 d L (chunk (A1.view.read (Elt F) f1) R C) ∗ Held D1 d L (chunk (A2.view.read (Elt F) f2) R C)) := by
    intro v165 v R C t u g
    have ht : t.val < 250 := t.isLt
    exact wp_addStep d L B1 D1 Acc (p1 := k0_idx4_inb v50 (k0_pay2 v74 t)) (p1' := k0_idx5_inb v50 (k0_pay2 v74 t)) (p2 := k0_idx6_inb) (P2 := k0_chk4) ht (row_lanes ht _ hv74) hv50 hv76 (fun h => ⟨h, h⟩) (fun v h => h) _ _ hidx R C g
  have hbody2 : ∀ (v165 v : BitVec 32) (R C : ℕ) (t : Fin k0_t5_loop.trips) (u : Unit) (g : S80000.Idx → Elt F .f32),
      iprop(Held Acc d L g ∗ Held (F := F) B2 d L (chunk (A1.view.read (Elt F) f1) R C) ∗ Held D2 d L (chunk (A2.view.read (Elt F) f2) R C))
        ⊢ wp frame (wpE (defs₀ (F := F)) 𝒱₀ (thr d L) none) Set.univ
          (k0_t5_body L A1 hA1 A2 hA2 O0 hO0 O1 hO1 Acc hAcc B0 hB0 B1 hB1 B2 hB2 B3 hB3 D0 hD0 D1 hD1 D2 hD2 D3 hD3 s0 s1 s2 s3 t0 t1 t2 t3 c0 c1 c2 c3 c4 c5 c6 c7 c8 c9 c10 c11 c12 c13 c14 c15 v30 v50 v74 v76 n v165 v t u)
          fun _ => iprop(Held Acc d L (putStep g (target (A1.view.read (Elt F) f1) (R + 2 * t.val) C) (lanes (A2.view.read (Elt F) f2) (R + 2 * t.val) C))
            ∗ Held (F := F) B2 d L (chunk (A1.view.read (Elt F) f1) R C) ∗ Held D2 d L (chunk (A2.view.read (Elt F) f2) R C)) := by
    intro v165 v R C t u g
    have ht : t.val < 250 := t.isLt
    exact wp_addStep d L B2 D2 Acc (p1 := k0_idx7_inb v50 (k0_pay3 v74 t)) (p1' := k0_idx8_inb v50 (k0_pay3 v74 t)) (p2 := k0_idx9_inb) (P2 := k0_chk6) ht (row_lanes ht _ hv74) hv50 hv76 (fun h => ⟨h, h⟩) (fun v h => h) _ _ hidx R C g
  have hbody3 : ∀ (v165 v : BitVec 32) (R C : ℕ) (t : Fin k0_t6_loop.trips) (u : Unit) (g : S80000.Idx → Elt F .f32),
      iprop(Held Acc d L g ∗ Held (F := F) B3 d L (chunk (A1.view.read (Elt F) f1) R C) ∗ Held D3 d L (chunk (A2.view.read (Elt F) f2) R C))
        ⊢ wp frame (wpE (defs₀ (F := F)) 𝒱₀ (thr d L) none) Set.univ
          (k0_t6_body L A1 hA1 A2 hA2 O0 hO0 O1 hO1 Acc hAcc B0 hB0 B1 hB1 B2 hB2 B3 hB3 D0 hD0 D1 hD1 D2 hD2 D3 hD3 s0 s1 s2 s3 t0 t1 t2 t3 c0 c1 c2 c3 c4 c5 c6 c7 c8 c9 c10 c11 c12 c13 c14 c15 v30 v50 v74 v76 n v165 v t u)
          fun _ => iprop(Held Acc d L (putStep g (target (A1.view.read (Elt F) f1) (R + 2 * t.val) C) (lanes (A2.view.read (Elt F) f2) (R + 2 * t.val) C))
            ∗ Held (F := F) B3 d L (chunk (A1.view.read (Elt F) f1) R C) ∗ Held D3 d L (chunk (A2.view.read (Elt F) f2) R C)) := by
    intro v165 v R C t u g
    have ht : t.val < 250 := t.isLt
    exact wp_addStep d L B3 D3 Acc (p1 := k0_idx10_inb v50 (k0_pay4 v74 t)) (p1' := k0_idx11_inb v50 (k0_pay4 v74 t)) (p2 := k0_idx12_inb) (P2 := k0_chk8) ht (row_lanes ht _ hv74) hv50 hv76 (fun h => ⟨h, h⟩) (fun v h => h) _ _ hidx R C g
  have hflying : ∀ (b : ℕ) (B : Memref sig .scVector .vmem S500x8 .i32) (D : Memref sig .scVector .vmem S500x8 .f32) (s t : DmaSem sig) (q0 q1 : PosShare TreeShare),
      Buffer d L A1 A2 B D s t q0 q1 f1 f2 b n.val = Fly d L A1 A2 B D s t q0 q1 f1 f2 (rowOf L + 500 * (4 * n.val + b)) (colOf L) :=
    fun b B D s t q0 q1 => if_pos hn
  unfold Main
  rw [hflying, hflying, hflying, hflying]
  iintro ⟨#Hlv, H0, H1, H2, H3, Ha, HO⟩
  by_cases hlt : n.val < 79
  · have hnext : ∀ (b : ℕ) (B : Memref sig .scVector .vmem S500x8 .i32) (D : Memref sig .scVector .vmem S500x8 .f32) (s t : DmaSem sig) (q0 q1 : PosShare TreeShare),
        Buffer d L A1 A2 B D s t q0 q1 f1 f2 b (n.val + 1) = Fly d L A1 A2 B D s t q0 q1 f1 f2 (rowOf L + 500 * (4 * n.val + (4 + b))) (colOf L) := by
      intro b B D s t q0 q1
      rw [Buffer, if_pos (by omega), show 4 * (n.val + 1) + b = 4 * n.val + (4 + b) by omega]
    simp only [k0_t2_body, k0_part1_eq_skeleton, k0_part2_eq_skeleton, k0_part3_eq_skeleton, k0_part4_eq_skeleton, k0_part1_skel, k0_part2_skel, k0_part3_skel, k0_part4_skel,
      (cond1_iff n).mpr hlt, (cond2_iff n).mpr hlt, (cond3_iff n).mpr hlt, (cond4_iff n).mpr hlt, dite_true,
      Prog.lift, Prog.bind_op, Prog.bind_ret, Prog.pure_eq_ret, Prog.bind_assoc]
    iapply (wp_turn d L A1 A2 Acc B0 D0 s0.sem t0.sem (q 0) (q 1) f1 f2 (l := k0_t3_loop) rfl (O := O) (W := W) hO
      (R0 := rowOf L) (R := rowOf L + 500 * (4 * n.val + 0)) (C := colOf L) (n := 1000 * n.val + 0) (by omega) (hbody0 _ _)) $$ [H0 Ha HO]
    · isplitr; · iexact Hlv
      isplitl [H0]; · iexact H0
      isplitl [Ha]; · iexact Ha
      iexact HO
    iintro ⟨H0, Ha, HO⟩
    iapply (wp_send d L A1 A2 B0 D0 s0.sem t0.sem (q 0) (q 1) f1 f2 (off5_eq L n) (off6_eq L n)) $$ H0
    iintro H0
    iapply (wp_turn d L A1 A2 Acc B1 D1 s1.sem t1.sem (q 2) (q 3) f1 f2 (l := k0_t4_loop) rfl (O := O) (W := W) hO
      (R0 := rowOf L) (R := rowOf L + 500 * (4 * n.val + 1)) (C := colOf L) (n := 1000 * n.val + 250) (by omega) (hbody1 _ _ _ _)) $$ [H1 Ha HO]
    · isplitr; · iexact Hlv
      isplitl [H1]; · iexact H1
      isplitl [Ha]; · iexact Ha
      iexact HO
    iintro ⟨H1, Ha, HO⟩
    iapply (wp_send d L A1 A2 B1 D1 s1.sem t1.sem (q 2) (q 3) f1 f2 (off8_eq L n) (off9_eq L n)) $$ H1
    iintro H1
    iapply (wp_turn d L A1 A2 Acc B2 D2 s2.sem t2.sem (q 4) (q 5) f1 f2 (l := k0_t5_loop) rfl (O := O) (W := W) hO
      (R0 := rowOf L) (R := rowOf L + 500 * (4 * n.val + 2)) (C := colOf L) (n := 1000 * n.val + 500) (by omega) (hbody2 _ _ _ _)) $$ [H2 Ha HO]
    · isplitr; · iexact Hlv
      isplitl [H2]; · iexact H2
      isplitl [Ha]; · iexact Ha
      iexact HO
    iintro ⟨H2, Ha, HO⟩
    iapply (wp_send d L A1 A2 B2 D2 s2.sem t2.sem (q 4) (q 5) f1 f2 (off10_eq L n) (off11_eq L n)) $$ H2
    iintro H2
    iapply (wp_turn d L A1 A2 Acc B3 D3 s3.sem t3.sem (q 6) (q 7) f1 f2 (l := k0_t6_loop) rfl (O := O) (W := W) hO
      (R0 := rowOf L) (R := rowOf L + 500 * (4 * n.val + 3)) (C := colOf L) (n := 1000 * n.val + 750) (by omega) (hbody3 _ _ _ _)) $$ [H3 Ha HO]
    · isplitr; · iexact Hlv
      isplitl [H3]; · iexact H3
      isplitl [Ha]; · iexact Ha
      iexact HO
    iintro ⟨H3, Ha, HO⟩
    iapply (wp_send d L A1 A2 B3 D3 s3.sem t3.sem (q 6) (q 7) f1 f2 (off12_eq L n) (off13_eq L n)) $$ H3
    iintro H3
    rw [wp_ret]
    imodintro
    isplitl [H0]; · iapply (Entails.of_eq (hnext 0 B0 D0 s0.sem t0.sem (q 0) (q 1)).symm); iexact H0
    isplitl [H1]; · iapply (Entails.of_eq (hnext 1 B1 D1 s1.sem t1.sem (q 2) (q 3)).symm); iexact H1
    isplitl [H2]; · iapply (Entails.of_eq (hnext 2 B2 D2 s2.sem t2.sem (q 4) (q 5)).symm); iexact H2
    isplitl [H3]; · iapply (Entails.of_eq (hnext 3 B3 D3 s3.sem t3.sem (q 6) (q 7)).symm); iexact H3
    isplitl [Ha]; · rw [show 1000 * (n.val + 1) = 1000 * n.val + 750 + 250 by omega]; iexact Ha
    iexact HO
  · have hlast : ∀ (b : ℕ) (B : Memref sig .scVector .vmem S500x8 .i32) (D : Memref sig .scVector .vmem S500x8 .f32) (s t : DmaSem sig) (q0 q1 : PosShare TreeShare),
        Buffer d L A1 A2 B D s t q0 q1 f1 f2 b (n.val + 1) = Idle d L A1 A2 B D s t q0 q1 f1 f2 := fun b B D s t q0 q1 => if_neg (by omega)
    simp only [k0_t2_body, k0_part1_eq_skeleton, k0_part2_eq_skeleton, k0_part3_eq_skeleton, k0_part4_eq_skeleton, k0_part1_skel, k0_part2_skel, k0_part3_skel, k0_part4_skel,
      mt (cond1_iff n).mp hlt, mt (cond2_iff n).mp hlt, mt (cond3_iff n).mp hlt, mt (cond4_iff n).mp hlt, dite_false,
      Prog.lift, Prog.bind_op, Prog.bind_ret, Prog.pure_eq_ret, Prog.bind_assoc]
    iapply (wp_turn d L A1 A2 Acc B0 D0 s0.sem t0.sem (q 0) (q 1) f1 f2 (l := k0_t3_loop) rfl (O := O) (W := W) hO
      (R0 := rowOf L) (R := rowOf L + 500 * (4 * n.val + 0)) (C := colOf L) (n := 1000 * n.val + 0) (by omega) (hbody0 _ _)) $$ [H0 Ha HO]
    · isplitr; · iexact Hlv
      isplitl [H0]; · iexact H0
      isplitl [Ha]; · iexact Ha
      iexact HO
    iintro ⟨H0, Ha, HO⟩
    iapply (wp_turn d L A1 A2 Acc B1 D1 s1.sem t1.sem (q 2) (q 3) f1 f2 (l := k0_t4_loop) rfl (O := O) (W := W) hO
      (R0 := rowOf L) (R := rowOf L + 500 * (4 * n.val + 1)) (C := colOf L) (n := 1000 * n.val + 250) (by omega) (hbody1 _ _ _ _)) $$ [H1 Ha HO]
    · isplitr; · iexact Hlv
      isplitl [H1]; · iexact H1
      isplitl [Ha]; · iexact Ha
      iexact HO
    iintro ⟨H1, Ha, HO⟩
    iapply (wp_turn d L A1 A2 Acc B2 D2 s2.sem t2.sem (q 4) (q 5) f1 f2 (l := k0_t5_loop) rfl (O := O) (W := W) hO
      (R0 := rowOf L) (R := rowOf L + 500 * (4 * n.val + 2)) (C := colOf L) (n := 1000 * n.val + 500) (by omega) (hbody2 _ _ _ _)) $$ [H2 Ha HO]
    · isplitr; · iexact Hlv
      isplitl [H2]; · iexact H2
      isplitl [Ha]; · iexact Ha
      iexact HO
    iintro ⟨H2, Ha, HO⟩
    iapply (wp_turn d L A1 A2 Acc B3 D3 s3.sem t3.sem (q 6) (q 7) f1 f2 (l := k0_t6_loop) rfl (O := O) (W := W) hO
      (R0 := rowOf L) (R := rowOf L + 500 * (4 * n.val + 3)) (C := colOf L) (n := 1000 * n.val + 750) (by omega) (hbody3 _ _ _ _)) $$ [H3 Ha HO]
    · isplitr; · iexact Hlv
      isplitl [H3]; · iexact H3
      isplitl [Ha]; · iexact Ha
      iexact HO
    iintro ⟨H3, Ha, HO⟩
    rw [wp_ret]
    imodintro
    isplitl [H0]; · iapply (Entails.of_eq (hlast 0 B0 D0 s0.sem t0.sem (q 0) (q 1)).symm); iexact H0
    isplitl [H1]; · iapply (Entails.of_eq (hlast 1 B1 D1 s1.sem t1.sem (q 2) (q 3)).symm); iexact H1
    isplitl [H2]; · iapply (Entails.of_eq (hlast 2 B2 D2 s2.sem t2.sem (q 4) (q 5)).symm); iexact H2
    isplitl [H3]; · iapply (Entails.of_eq (hlast 3 B3 D3 s3.sem t3.sem (q 6) (q 7)).symm); iexact H3
    isplitl [Ha]; · rw [show 1000 * (n.val + 1) = 1000 * n.val + 750 + 250 by omega]; iexact Ha
    iexact HO

end Trip

end Cert.Proof.Scatter

end
-- ==== Proof.Task.lean ====
/-
  The whole task of a tile at a symbolic place: zero the accumulator, send the four buffers for their first rows, the main
  loop, and the eight columns written to the output of the tile's half.
-/
module

public import proofs.«01_k».proof.Proof.Trip

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords)

/-! ## The eight columns -/

section Columns

variable (O : Memref sig .scVector .hbm S128x10000 .f32) (Acc : Memref sig .scVector .vmem S80000 .f32)

theorem group_inb (r : Fin 8) (a : Fin 1) : ((fun r : Fin 8 => (![r.val * 10000] : Fin 1 → ℕ)) r) a + S10000.size a ≤ S80000.size a := by
  obtain rfl : a = 0 := Subsingleton.elim _ _
  show r.val * 10000 + 10000 ≤ 80000
  have := r.isLt; omega

/-- A column's transfer and its wait, and what follows. -/
abbrev takeRow (sm : DmaSem sig) {o : Fin 2 → ℕ} (h : ∀ a, o a + S1x10000.size a ≤ S128x10000.size a) {oa : Fin 1 → ℕ} (ha : ∀ a, oa a + S10000.size a ≤ S80000.size a)
    {α : Type} (k : PUnit → TileProg F d L α) : TileProg F d L α :=
  .op (.enqueueDma (group Acc oa ha) (.here (rowOut O o h)) (.dma sm) (View.wordExact_bits rfl) ((View.wordExact_bits rfl).reshape _ _) ⟨Or.inl rfl, trivial⟩) fun _ =>
    .op (.waitDma2 sm (group Acc oa ha) (rowOut O o h) (View.wordExact_bits rfl) ((View.wordExact_bits rfl).reshape _ _)) k

/-- The cells of eight semaphores, at zero. -/
def Cells (c : Fin 8 → DmaSem sig) : sProp 𝕄 :=
  iprop(semVal (thr d L, .dma (c 0)) 0 ∗ semVal (thr d L, .dma (c 1)) 0 ∗ semVal (thr d L, .dma (c 2)) 0 ∗ semVal (thr d L, .dma (c 3)) 0 ∗ semVal (thr d L, .dma (c 4)) 0 ∗ semVal (thr d L, .dma (c 5)) 0 ∗ semVal (thr d L, .dma (c 6)) 0 ∗ semVal (thr d L, .dma (c 7)) 0)

theorem wp_columns {o : Fin 8 → Fin 2 → ℕ} {h : ∀ r a, o r a + S1x10000.size a ≤ S128x10000.size a} {n : ℕ} (hn : n + 8 ≤ 128) (ho : ∀ r, o r = ![n + r.val, 0])
    {oa : Fin 8 → Fin 1 → ℕ} {ha : ∀ r a, oa r a + S10000.size a ≤ S80000.size a} (hoa : ∀ r, oa r = ![r.val * 10000]) (c : Fin 8 → DmaSem sig)
    {S : Finset (Idx (O.view.loc (thr d L)))} (hS : ∀ x, n ≤ (x 0).val → (x 0).val < n + 8 → O.view.emb x ∈ S)
    {p : S128x10000.Idx → Elt F .f32} {g : S80000.Idx → Elt F .f32} (hp : ∀ (r : Fin 8) x, (x 0).val = n + r.val → p x = g (slot r.val (x 1).val))
    {Ow : CellTallies nD τ sig (HIx 1)} {W : Waits sig (HIx 1)} (hO : ∀ g, Ow g none = 0)
    {α : Type} {k : PUnit → TileProg F d L α} {Q : α → sProp 𝕄} :
    iprop(levAts (K (F := F)).L (K (F := F)).lev ∗ Cells d L c ∗ OutTo d L O S p n ∗ Held Acc d L g ∗ Owing d L Ow W)
      ⊢ iprop((iprop(Cells d L c ∗ OutTo d L O S p (n + 8) ∗ Held Acc d L g ∗ Owing d L Ow W)
          -∗ wp frame (wpE (defs₀ (F := F)) 𝒱₀ (thr d L) none) Set.univ (k ⟨⟩) Q)
        -∗ wp frame (wpE (defs₀ (F := F)) 𝒱₀ (thr d L) none) Set.univ
          (takeRow d L O Acc (c 0) (h 0) (ha 0) fun _ =>
            takeRow d L O Acc (c 1) (h 1) (ha 1) fun _ =>
            takeRow d L O Acc (c 2) (h 2) (ha 2) fun _ =>
            takeRow d L O Acc (c 3) (h 3) (ha 3) fun _ =>
            takeRow d L O Acc (c 4) (h 4) (ha 4) fun _ =>
            takeRow d L O Acc (c 5) (h 5) (ha 5) fun _ =>
            takeRow d L O Acc (c 6) (h 6) (ha 6) fun _ =>
            takeRow d L O Acc (c 7) (h 7) (ha 7) fun _ =>  k ⟨⟩) Q) := by
  have step : ∀ (r : Fin 8) {W : Waits sig (HIx 1)} {k : PUnit → TileProg F d L α},
      iprop(levAts (K (F := F)).L (K (F := F)).lev ∗ semVal (thr d L, .dma (c r)) 0 ∗ OutTo d L O S p (n + r.val) ∗ Held Acc d L g ∗ Owing d L Ow W)
        ⊢ iprop((iprop(semVal (thr d L, .dma (c r)) 0 ∗ OutTo d L O S p (n + (r.val + 1)) ∗ Held Acc d L g ∗ Owing d L Ow W)
            -∗ wp frame (wpE (defs₀ (F := F)) 𝒱₀ (thr d L) none) Set.univ (k ⟨⟩) Q)
          -∗ wp frame (wpE (defs₀ (F := F)) 𝒱₀ (thr d L) none) Set.univ (takeRow d L O Acc (c r) (h r) (ha r) k) Q) := by
    intro r W k
    have hr := r.isLt
    unfold Owing
    iintro ⟨#Hlv, Hs, Ho, Ha, %W', %hW, HO⟩ Hk
    iapply (wp_column d L O Acc (c r) (n := n + r.val) (by omega) (ho r) (hoa r) hr (fun x hx => hS x (by omega) (by omega)) (hp r) hO) $$ [Hs Ho Ha HO]
    · isplitr; · iexact Hlv
      isplitl [Hs]; · iexact Hs
      isplitl [Ho]; · iexact Ho
      isplitl [Ha]; · iexact Ha
      iexact HO
    iintro ⟨Hs, Ho, Ha, HO⟩
    iapply Hk
    isplitl [Hs]; · iexact Hs
    isplitl [Ho]; · iexact Ho
    isplitl [Ha]; · iexact Ha
    iexists _
    isplitr
    rotate_left
    · iexact HO
    · ipureintro; exact owing_insert (O := Ow) hW _
  unfold Cells
  iintro ⟨#Hlv, ⟨H0, H1, H2, H3, H4, H5, H6, H7⟩, Ho, Ha, HO⟩ Hk
  iapply (step 0) $$ [H0 Ho Ha HO]
  · isplitr; · iexact Hlv
    isplitl [H0]; · iexact H0
    isplitl [Ho]; · iexact Ho
    isplitl [Ha]; · iexact Ha
    iexact HO
  iintro ⟨H0, Ho, Ha, HO⟩
  iapply (step 1) $$ [H1 Ho Ha HO]
  · isplitr; · iexact Hlv
    isplitl [H1]; · iexact H1
    isplitl [Ho]; · iexact Ho
    isplitl [Ha]; · iexact Ha
    iexact HO
  iintro ⟨H1, Ho, Ha, HO⟩
  iapply (step 2) $$ [H2 Ho Ha HO]
  · isplitr; · iexact Hlv
    isplitl [H2]; · iexact H2
    isplitl [Ho]; · iexact Ho
    isplitl [Ha]; · iexact Ha
    iexact HO
  iintro ⟨H2, Ho, Ha, HO⟩
  iapply (step 3) $$ [H3 Ho Ha HO]
  · isplitr; · iexact Hlv
    isplitl [H3]; · iexact H3
    isplitl [Ho]; · iexact Ho
    isplitl [Ha]; · iexact Ha
    iexact HO
  iintro ⟨H3, Ho, Ha, HO⟩
  iapply (step 4) $$ [H4 Ho Ha HO]
  · isplitr; · iexact Hlv
    isplitl [H4]; · iexact H4
    isplitl [Ho]; · iexact Ho
    isplitl [Ha]; · iexact Ha
    iexact HO
  iintro ⟨H4, Ho, Ha, HO⟩
  iapply (step 5) $$ [H5 Ho Ha HO]
  · isplitr; · iexact Hlv
    isplitl [H5]; · iexact H5
    isplitl [Ho]; · iexact Ho
    isplitl [Ha]; · iexact Ha
    iexact HO
  iintro ⟨H5, Ho, Ha, HO⟩
  iapply (step 6) $$ [H6 Ho Ha HO]
  · isplitr; · iexact Hlv
    isplitl [H6]; · iexact H6
    isplitl [Ho]; · iexact Ho
    isplitl [Ha]; · iexact Ha
    iexact HO
  iintro ⟨H6, Ho, Ha, HO⟩
  iapply (step 7) $$ [H7 Ho Ha HO]
  · isplitr; · iexact Hlv
    isplitl [H7]; · iexact H7
    isplitl [Ho]; · iexact Ho
    isplitl [Ha]; · iexact Ha
    iexact HO
  iintro ⟨H7, Ho, Ha, HO⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Ho]; · iexact Ho
  isplitl [Ha]; · iexact Ha
  iexact HO

end Columns

/-- The levels stay at hand over a step. -/
theorem keep_levels {X Y : sProp 𝕄} {α : Type} {p : TileProg F d L α}
    (h : iprop(levAts (K (F := F)).L (K (F := F)).lev ∗ X) ⊢ wp frame (wpE (defs₀ (F := F)) 𝒱₀ (thr d L) none) Set.univ p fun _ => Y) :
    iprop(levAts (K (F := F)).L (K (F := F)).lev ∗ X)
      ⊢ wp frame (wpE (defs₀ (F := F)) 𝒱₀ (thr d L) none) Set.univ p fun _ => (iprop(levAts (K (F := F)).L (K (F := F)).lev ∗ Y) : sProp 𝕄) := by
  iintro ⟨#Hlv, HX⟩
  iapply (wp_wand frame (wpE (defs₀ (F := F)) 𝒱₀ (thr d L) none) Set.univ (p := p) (Q := fun _ => Y)) $$ [HX]
  · iapply h
    isplitr; · iexact Hlv
    iexact HX
  iintro %a HY
  isplitr; · iexact Hlv
  iexact HY
variable (A1 : Memref sig .scVector .hbm S320000x128 .i32) (hA1 : A1.IsWhole) (A2 : Memref sig .scVector .hbm S320000x128 .f32) (hA2 : A2.IsWhole)
variable (O0 : Memref sig .scVector .hbm S128x10000 .f32) (hO0 : O0.IsWhole) (O1 : Memref sig .scVector .hbm S128x10000 .f32) (hO1 : O1.IsWhole)
variable (Acc : Memref sig .scVector .vmem S80000 .f32) (hAcc : Acc.IsWhole)
variable (B0 : Memref sig .scVector .vmem S500x8 .i32) (hB0 : B0.IsWhole) (B1 : Memref sig .scVector .vmem S500x8 .i32) (hB1 : B1.IsWhole)
variable (B2 : Memref sig .scVector .vmem S500x8 .i32) (hB2 : B2.IsWhole) (B3 : Memref sig .scVector .vmem S500x8 .i32) (hB3 : B3.IsWhole)
variable (D0 : Memref sig .scVector .vmem S500x8 .f32) (hD0 : D0.IsWhole) (D1 : Memref sig .scVector .vmem S500x8 .f32) (hD1 : D1.IsWhole)
variable (D2 : Memref sig .scVector .vmem S500x8 .f32) (hD2 : D2.IsWhole) (D3 : Memref sig .scVector .vmem S500x8 .f32) (hD3 : D3.IsWhole)
variable (s0 s1 s2 s3 t0 t1 t2 t3 c0 c1 c2 c3 c4 c5 c6 c7 c8 c9 c10 c11 c12 c13 c14 c15 : DmaSems sig S_)

/-! ## The task -/

section Task

variable (q : Fin 8 → PosShare TreeShare) (f1 : Buf (Elt F) (aLoc A1 d L)) (f2 : Buf (Elt F) (aLoc A2 d L))

/-- The four buffers at rest. -/
def Idles : sProp 𝕄 :=
  iprop(Idle d L A1 A2 B0 D0 s0.sem t0.sem (q 0) (q 1) f1 f2 ∗
    Idle d L A1 A2 B1 D1 s1.sem t1.sem (q 2) (q 3) f1 f2 ∗
    Idle d L A1 A2 B2 D2 s2.sem t2.sem (q 4) (q 5) f1 f2 ∗
    Idle d L A1 A2 B3 D3 s3.sem t3.sem (q 6) (q 7) f1 f2)

theorem main_zero (O : CellTallies nD τ sig (HIx 1)) (W : Waits sig (HIx 1)) :
    iprop(Fly d L A1 A2 B0 D0 s0.sem t0.sem (q 0) (q 1) f1 f2 (rowOf L + 500 * (0 : Fin 4).val) (colOf L) ∗ Fly d L A1 A2 B1 D1 s1.sem t1.sem (q 2) (q 3) f1 f2 (rowOf L + 500 * (1 : Fin 4).val) (colOf L) ∗ Fly d L A1 A2 B2 D2 s2.sem t2.sem (q 4) (q 5) f1 f2 (rowOf L + 500 * (2 : Fin 4).val) (colOf L) ∗ Fly d L A1 A2 B3 D3 s3.sem t3.sem (q 6) (q 7) f1 f2 (rowOf L + 500 * (3 : Fin 4).val) (colOf L)
        ∗ Held Acc d L (fun _ => Scalar.ofBits .f32 0x00000000#32) ∗ Owing d L O W)
      ⊢ Main d L A1 A2 Acc B0 B1 B2 B3 D0 D1 D2 D3 s0 s1 s2 s3 t0 t1 t2 t3 q f1 f2 O W 0 := by
  unfold Main Buffer
  rw [if_pos (by decide), if_pos (by decide), if_pos (by decide), if_pos (by decide)]
  exact Entails.rfl

theorem main_end (O : CellTallies nD τ sig (HIx 1)) (W : Waits sig (HIx 1)) :
    Main d L A1 A2 Acc B0 B1 B2 B3 D0 D1 D2 D3 s0 s1 s2 s3 t0 t1 t2 t3 q f1 f2 O W 80
      ⊢ iprop(Idles d L A1 A2 B0 B1 B2 B3 D0 D1 D2 D3 s0 s1 s2 s3 t0 t1 t2 t3 q f1 f2
        ∗ Held Acc d L (accAt (A1.view.read (Elt F) f1) (A2.view.read (Elt F) f2) (rowOf L) (colOf L) 80000) ∗ Owing d L O W) := by
  unfold Main Buffer Idles
  rw [if_neg (by decide), if_neg (by decide), if_neg (by decide), if_neg (by decide)]
  iintro ⟨H0, H1, H2, H3, Ha, HO⟩
  isplitl [H0 H1 H2 H3]
  · isplitl [H0]; · iexact H0
    isplitl [H1]; · iexact H1
    isplitl [H2]; · iexact H2
    iexact H3
  isplitl [Ha]; · iexact Ha
  iexact HO

theorem wp_task {O : CellTallies nD τ sig (HIx 1)} {W : Waits sig (HIx 1)} (hO : ∀ g, O g none = 0)
    (hidx : ∀ y, (A1.view.read (Elt F) f1 y).toNat < 10000)
    {S0 : Finset (Idx (O0.view.loc (thr d L)))} {S1 : Finset (Idx (O1.view.loc (thr d L)))} {p0 p1 : S128x10000.Idx → Elt F .f32}
    (hS0 : (L 1).val / 8 = 0 → ∀ x, colOf L ≤ (x 0).val → (x 0).val < colOf L + 8 → O0.view.emb x ∈ S0)
    (hS1 : (L 1).val / 8 = 1 → ∀ x, colOf L ≤ (x 0).val → (x 0).val < colOf L + 8 → O1.view.emb x ∈ S1)
    (hp0 : (L 1).val / 8 = 0 → ∀ (r : Fin 8) x, (x 0).val = colOf L + r.val →
      p0 x = accAt (A1.view.read (Elt F) f1) (A2.view.read (Elt F) f2) (rowOf L) (colOf L) 80000 (slot r.val (x 1).val))
    (hp1 : (L 1).val / 8 = 1 → ∀ (r : Fin 8) x, (x 0).val = colOf L + r.val →
      p1 x = accAt (A1.view.read (Elt F) f1) (A2.view.read (Elt F) f2) (rowOf L) (colOf L) 80000 (slot r.val (x 1).val)) :
    iprop(levAts (K (F := F)).L (K (F := F)).lev ∗ Idles d L A1 A2 B0 B1 B2 B3 D0 D1 D2 D3 s0 s1 s2 s3 t0 t1 t2 t3 q f1 f2
        ∗ (∃ f, Acc.view.loc (thr d L) ↦[Acc.view.set]{fullShare} f)
        ∗ Cells d L ![c0.sem, c1.sem, c2.sem, c3.sem, c4.sem, c5.sem, c6.sem, c7.sem] ∗ Cells d L ![c8.sem, c9.sem, c10.sem, c11.sem, c12.sem, c13.sem, c14.sem, c15.sem]
        ∗ OutTo d L O0 S0 p0 (colOf L) ∗ OutTo d L O1 S1 p1 (colOf L) ∗ owes (thr d L) O W)
      ⊢ wp frame (wpE (defs₀ (F := F)) 𝒱₀ (thr d L) none) Set.univ
        (cc0__sc_body L A1 hA1 A2 hA2 O0 hO0 O1 hO1 Acc hAcc B0 hB0 B1 hB1 B2 hB2 B3 hB3 D0 hD0 D1 hD1 D2 hD2 D3 hD3
    s0 s1 s2 s3 t0 t1 t2 t3 c0 c1 c2 c3 c4 c5 c6 c7 c8 c9 c10 c11 c12 c13 c14 c15)
        fun _ => iprop(Idles d L A1 A2 B0 B1 B2 B3 D0 D1 D2 D3 s0 s1 s2 s3 t0 t1 t2 t3 q f1 f2
          ∗ (∃ f, Acc.view.loc (thr d L) ↦[Acc.view.set]{fullShare} f)
          ∗ Cells d L ![c0.sem, c1.sem, c2.sem, c3.sem, c4.sem, c5.sem, c6.sem, c7.sem] ∗ Cells d L ![c8.sem, c9.sem, c10.sem, c11.sem, c12.sem, c13.sem, c14.sem, c15.sem]
          ∗ OutTo d L O0 S0 p0 (if (L 1).val / 8 = 0 then colOf L + 8 else colOf L)
          ∗ OutTo d L O1 S1 p1 (if (L 1).val / 8 = 1 then colOf L + 8 else colOf L) ∗ Owing d L O W) := by
  simp only [cc0__sc_body_eq_skeleton, cc0__sc_body_skel, k0_part11_eq_skeleton, k0_part12_eq_skeleton, k0_part13_eq_skeleton, k0_part14_eq_skeleton, k0_part15_eq_skeleton,
    k0_part11_skel, k0_part12_skel, k0_part13_skel, k0_part14_skel, k0_part15_skel,
    Prog.lift, Prog.bind_op, Prog.bind_ret, Prog.pure_eq_ret, Prog.bind_assoc]
  unfold Idles
  iintro ⟨#Hlv, ⟨H0, H1, H2, H3⟩, Ha, HcA, HcB, Ho0, Ho1, HO⟩
  iapply (wp_zero_loop d L Acc (fun t a => by
    simp only [k0_t1_body, Prog.lift, Prog.bind_op, Prog.bind_ret, Prog.pure_eq_ret]
    exact wp_zero_trip d L Acc t)) $$ Ha
  iintro %a Ha
  iapply (wp_send d L A1 A2 B0 D0 s0.sem t0.sem (q 0) (q 1) f1 f2 (off2_eq L 0) (off3_eq L 0)) $$ H0
  iintro H0
  iapply (wp_send d L A1 A2 B1 D1 s1.sem t1.sem (q 2) (q 3) f1 f2 (off2_eq L 1) (off3_eq L 1)) $$ H1
  iintro H1
  iapply (wp_send d L A1 A2 B2 D2 s2.sem t2.sem (q 4) (q 5) f1 f2 (off2_eq L 2) (off3_eq L 2)) $$ H2
  iintro H2
  iapply (wp_send d L A1 A2 B3 D3 s3.sem t3.sem (q 6) (q 7) f1 f2 (off2_eq L 3) (off3_eq L 3)) $$ H3
  iintro H3
  iapply (Scf.wp_for_bind _ _ _ k0_t2_loop.lb k0_t2_loop.ub k0_t2_loop.st k0_t2_ok 0#32 _
    (fun n _ => iprop(levAts (K (F := F)).L (K (F := F)).lev ∗ Main d L A1 A2 Acc B0 B1 B2 B3 D0 D1 D2 D3 s0 s1 s2 s3 t0 t1 t2 t3 q f1 f2 O W n))
    (fun n a => keep_levels d L (wp_trip d L A1 hA1 A2 hA2 O0 hO0 O1 hO1 Acc hAcc B0 hB0 B1 hB1 B2 hB2 B3 hB3 D0 hD0 D1 hD1 D2 hD2 D3 hD3 s0 s1 s2 s3 t0 t1 t2 t3 c0 c1 c2 c3 c4 c5 c6 c7 c8 c9 c10 c11 c12 c13 c14 c15 q f1 f2 hO hidx _ _ lane_col lane_row lane_base n a))) $$ [H0 H1 H2 H3 Ha HO]
  · isplitr; · iexact Hlv
    iapply (main_zero d L A1 A2 Acc B0 B1 B2 B3 D0 D1 D2 D3 s0 s1 s2 s3 t0 t1 t2 t3 q f1 f2 O W)
    isplitl [H0]; · iexact H0
    isplitl [H1]; · iexact H1
    isplitl [H2]; · iexact H2
    isplitl [H3]; · iexact H3
    isplitl [Ha]; · iexact Ha
    unfold Owing
    iexists W
    isplitr; · ipureintro; exact fun p hp => Or.inl hp
    iexact HO
  iintro %a' ⟨-, HM⟩
  rw [show Scf.trips k0_t2_loop.lb k0_t2_loop.ub k0_t2_loop.st = 80 from trips_main]
  ihave HM' := (main_end d L A1 A2 Acc B0 B1 B2 B3 D0 D1 D2 D3 s0 s1 s2 s3 t0 t1 t2 t3 q f1 f2 O W) $$ HM
  icases HM' with ⟨HI, Ha, HO⟩
  have h16 : (L 1).val < 16 := (L 1).isLt
  by_cases hh : (L 1).val / 8 = 0
  · skip
    simp only [k0_part5_eq_skeleton, k0_part5_skel, k0_part6_eq_skeleton, k0_part6_skel, k0_part7_eq_skeleton, k0_part7_skel, (cond5_iff L).mpr hh, mt (cond6_iff L).mp (show ¬ (L 1).val / 8 = 1 by omega), dite_true, dite_false,
      Prog.lift, Prog.bind_op, Prog.bind_ret, Prog.pure_eq_ret, Prog.bind_assoc]
    iapply (wp_columns d L O0 Acc (n := colOf L) (h := fun r => k0_off14_inb L ((cond5_iff L).mpr hh) r) (ha := group_inb) (colOf_le L) (off14_eq L) (oa := fun r => ![r.val * 10000]) (fun r => rfl) ![c0.sem, c1.sem, c2.sem, c3.sem, c4.sem, c5.sem, c6.sem, c7.sem] (hS0 hh) (hp0 hh) hO) $$ [HcA Ho0 Ha HO]
    · isplitr; · iexact Hlv
      isplitl [HcA]; · iexact HcA
      isplitl [Ho0]; · iexact Ho0
      isplitl [Ha]; · iexact Ha
      iexact HO
    iintro ⟨HcA, Ho0, Ha, HO⟩
    rw [wp_ret, if_pos hh, if_neg (show ¬ (L 1).val / 8 = 1 by omega)]
    imodintro
    isplitl [HI]; · unfold Idles; iexact HI
    isplitl [Ha]
    · unfold Held
      icases Ha with ⟨%f, -, Ha⟩
      iexists f; iexact Ha
    isplitl [HcA]; · iexact HcA
    isplitl [HcB]; · iexact HcB
    isplitl [Ho0]; · iexact Ho0
    isplitl [Ho1]; · iexact Ho1
    iexact HO
  · replace hh : (L 1).val / 8 = 1 := by omega
    simp only [k0_part8_eq_skeleton, k0_part8_skel, k0_part9_eq_skeleton, k0_part9_skel, k0_part10_eq_skeleton, k0_part10_skel, (cond6_iff L).mpr hh, mt (cond5_iff L).mp (show ¬ (L 1).val / 8 = 0 by omega), dite_true, dite_false,
      Prog.lift, Prog.bind_op, Prog.bind_ret, Prog.pure_eq_ret, Prog.bind_assoc]
    iapply (wp_columns d L O1 Acc (n := colOf L) (h := fun r => k0_off15_inb L ((cond6_iff L).mpr hh) r) (ha := group_inb) (colOf_le L) (off15_eq L) (oa := fun r => ![r.val * 10000]) (fun r => rfl) ![c8.sem, c9.sem, c10.sem, c11.sem, c12.sem, c13.sem, c14.sem, c15.sem] (hS1 hh) (hp1 hh) hO) $$ [HcB Ho1 Ha HO]
    · isplitr; · iexact Hlv
      isplitl [HcB]; · iexact HcB
      isplitl [Ho1]; · iexact Ho1
      isplitl [Ha]; · iexact Ha
      iexact HO
    iintro ⟨HcB, Ho1, Ha, HO⟩
    rw [wp_ret, if_pos hh, if_neg (show ¬ (L 1).val / 8 = 0 by omega)]
    imodintro
    isplitl [HI]; · unfold Idles; iexact HI
    isplitl [Ha]
    · unfold Held
      icases Ha with ⟨%f, -, Ha⟩
      iexists f; iexact Ha
    isplitl [HcA]; · iexact HcA
    isplitl [HcB]; · iexact HcB
    isplitl [Ho0]; · iexact Ho0
    isplitl [Ho1]; · iexact Ho1
    iexact HO

end Task

end Cert.Proof.Scatter

end
-- ==== Proof.Tile.lean ====
/-
  The tile's task at the program's own arrays and buffers: what each tile is given of `index`, `src` and the two outputs,
  what it gives back, and the launch's obligation for the vector subcores' call.
-/
module

public import proofs.«01_k».proof.Proof.Task

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (shareDrop shareTok shareTokN pointsTo_toks_split pointsTo_toks_join)

variable {F : FTy → Type} [FloatOps F]

local notation "𝕄" => MM F

/-! ## What a tile holds -/

/-- The share of `index` and of `src` that goes to SparseCore `c`, to its tile `i`, and to buffer use `b` of that tile. -/
abbrev coreShare (c : ℕ) : PosShare TreeShare := shareTokN fullShare c
abbrev tileShare (c i : ℕ) : PosShare TreeShare := shareTokN (coreShare c) i
abbrev useShare (c i : ℕ) (b : Fin 8) : PosShare TreeShare := shareTok (tileShare c i) 8 b

/-- The part of output `h` that tile `i` of SparseCore `c` writes: its eight columns, if the tile works on half `h`. -/
def part (h c i : ℕ) : Finset S128x10000.Idx := Finset.univ.filter fun x => i / 8 = h ∧ (x 0).val / 8 = c * 8 + i % 8

variable (m : (ℓ : Loc nD τ sig) → Buf (Elt F) ℓ)

/-- `index` and `src` as the launch memory has them, and the finished contents of output `h`. -/
abbrev idxOf (d : Dev nD) : S320000x128.Idx → BitVec 32 := m (idxLoc d)
abbrev srcOf (d : Dev nD) : S320000x128.Idx → Elt F .f32 := m (srcLoc d)
abbrev partOf (d : Dev nD) (h : ℕ) : S128x10000.Idx → Elt F .f32 := partialT (idxOf m d) (srcOf m d) h

/-- Every word of `index` names a row of the result. -/
def InRange : Prop := ∀ d y, (idxOf m d y).toNat < 10000

abbrev goTile (d : Dev nD) (c i : ℕ) : sProp 𝕄 :=
  iprop((idxLoc d ↦{tileShare c i} m (idxLoc d)) ∗ (srcLoc d ↦{tileShare c i} m (srcLoc d))
    ∗ (p0Loc d ↦[part 0 c i]{fullShare} m (p0Loc d)) ∗ (p1Loc d ↦[part 1 c i]{fullShare} m (p1Loc d)))
abbrev doneTile (d : Dev nD) (c i : ℕ) : sProp 𝕄 :=
  iprop((idxLoc d ↦{tileShare c i} m (idxLoc d)) ∗ (srcLoc d ↦{tileShare c i} m (srcLoc d))
    ∗ (p0Loc d ↦[part 0 c i]{fullShare} partOf m d 0) ∗ (p1Loc d ↦[part 1 c i]{fullShare} partOf m d 1))

section Tile

variable (d : Dev nD) (L : grid0.Coords)

/-! ## The tile's own buffers and semaphores -/

/-- The tile's twenty-four transfer semaphores: the eight of the buffers, the sixteen of the columns. -/
def cellEmb : Fin 24 ↪ GSem nD τ sig :=
  ⟨fun k => (thr d L, .dma (k.castLE (by decide))), fun a b h => by
    have := congrArg Prod.snd h
    simp only [SemLoc.dma.injEq] at this
    exact Fin.castLE_injective _ this⟩

/-- Its nine buffers. -/
def refOf (k : Fin 9) : Ref sig .scVector := ⟨.vmem, k.castLE (by decide), by revert k; decide⟩
theorem refOf_injective : ∀ a b, refOf a = refOf b → a = b := by decide
theorem cell_scoped : ∀ k : Fin 24, (SemLoc.dma (k.castLE (by decide)) : SemLoc sig).isScoped .scVector = true := by decide

def bufEmb : Fin 9 ↪ DevRef τ sig :=
  ⟨fun k => (Proc.scVector (cV L) (jV L)).devRef (refOf k), fun a b h => refOf_injective a b (Proc.devRef_injective _ h)⟩

theorem own_cells :
    (SparseCore.Cfg.ownSems0 (thr d L) : sProp 𝕄)
      = iprop((bigSep Finset.univ fun k : Fin 24 => semVal (cellEmb d L k) 0)
          ∗ bigSep (SparseCore.Cfg.ownCells (thr d L) \ Finset.univ.map (cellEmb d L)) fun g => semVal g 0) := by
  unfold SparseCore.Cfg.ownSems0
  rw [SparseCore.bigSep_sdiff_split' (t := Finset.univ.map (cellEmb d L)) ?sub, bigSep_map]
  case sub =>
    intro g hg
    obtain ⟨k, -, rfl⟩ := Finset.mem_map.mp hg
    exact SparseCore.Cfg.mem_ownCells.mpr ⟨rfl, cell_scoped k⟩

theorem own_bufs :
    (SparseCore.Cfg.ownBufs (thr d L) : sProp 𝕄)
      = iprop((bigSep Finset.univ fun k : Fin 9 => iprop(∃ f, (thr d L).loc (refOf k) ↦{fullShare} f))
          ∗ bigSep (SparseCore.Cfg.ownRefs (τ := τ) (.scVector (cV L) (jV L)) \ Finset.univ.map (bufEmb L)) fun b => iprop(∃ f, ((d, b) : Loc nD τ sig) ↦{fullShare} f)) := by
  unfold SparseCore.Cfg.ownBufs
  refine (SparseCore.bigSep_sdiff_split' (t := Finset.univ.map (bufEmb L)) ?sub).trans ?_
  case sub =>
    intro b hb
    obtain ⟨k, -, rfl⟩ := Finset.mem_map.mp hb
    exact SparseCore.Cfg.mem_ownRefs_of_owner (p := Proc.scVector (cV L) (jV L)) rfl
  rw [bigSep_map]
  rfl

theorem cells_chain (Φ : Fin 24 → sProp 𝕄) :
    (bigSep Finset.univ Φ) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ
theorem bufs_chain (Φ : Fin 9 → sProp 𝕄) :
    (bigSep Finset.univ Φ) = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem uses_chain (Φ : Fin 8 → sProp 𝕄) :
    (bigSep Finset.univ Φ) = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The task -/

abbrev idxV : Memref sig .scVector .hbm S320000x128 .i32 := Memref.whole main_arg1_scv
abbrev srcV : Memref sig .scVector .hbm S320000x128 .f32 := Memref.whole main_arg2_scv
abbrev p0V : Memref sig .scVector .hbm S128x10000 .f32 := Memref.whole main_v0_0_scv
abbrev p1V : Memref sig .scVector .hbm S128x10000 .f32 := Memref.whole main_v0_1_scv
abbrev accV : Memref sig .scVector .vmem S80000 .f32 := Memref.whole cc0_scratch0

/-- The kernel's body at the program's arrays, buffers and semaphores. -/
abbrev tileProg : TileProg F d L PUnit :=
  cc0__sc_body L idxV (Memref.isWhole_whole _) srcV (Memref.isWhole_whole _) p0V (Memref.isWhole_whole _) p1V (Memref.isWhole_whole _) accV (Memref.isWhole_whole _)
    (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15

/-- What the launch deals a tile, sorted by use: per buffer its semaphores, its storage and its shares of the two arrays;
    the accumulator; the two sets of eight column semaphores. -/
theorem sorted (A : Fin 24 → sProp 𝕄) (B : Fin 9 → sProp 𝕄) (I J : Fin 8 → sProp 𝕄) :
    iprop((bigSep Finset.univ A) ∗ (bigSep Finset.univ B) ∗ (bigSep Finset.univ I) ∗ bigSep Finset.univ J)
      = iprop((((A 0 ∗ B 1 ∗ I 0 ∗ I 1) ∗ (A 4 ∗ B 5 ∗ J 0 ∗ J 1)) ∗ ((A 1 ∗ B 2 ∗ I 2 ∗ I 3) ∗ (A 5 ∗ B 6 ∗ J 2 ∗ J 3)) ∗ ((A 2 ∗ B 3 ∗ I 4 ∗ I 5) ∗ (A 6 ∗ B 7 ∗ J 4 ∗ J 5)) ∗ ((A 3 ∗ B 4 ∗ I 6 ∗ I 7) ∗ (A 7 ∗ B 8 ∗ J 6 ∗ J 7))) ∗ B 0 ∗ (A 8 ∗ A 9 ∗ A 10 ∗ A 11 ∗ A 12 ∗ A 13 ∗ A 14 ∗ A 15) ∗ (A 16 ∗ A 17 ∗ A 18 ∗ A 19 ∗ A 20 ∗ A 21 ∗ A 22 ∗ A 23)) := by
  rw [cells_chain, bufs_chain, uses_chain, uses_chain]
  haveI : Std.Associative (α := sProp 𝕄) BI.sep := ⟨fun _ _ _ => BI.equiv_iff.mp ⟨BI.sep_assoc, BI.sep_assoc'⟩⟩
  haveI : Std.Commutative (α := sProp 𝕄) BI.sep := ⟨fun _ _ => BI.equiv_iff.mp ⟨BI.sep_comm, BI.sep_comm⟩⟩
  ac_rfl

/-- The sorted holdings, as the task takes them. -/
theorem sorted_tile (q : Fin 8 → PosShare TreeShare) (f1 : Buf (Elt F) (idxLoc d)) (f2 : Buf (Elt F) (srcLoc d)) :
    iprop((bigSep Finset.univ fun k : Fin 24 => semVal (cellEmb d L k) 0) ∗ (bigSep Finset.univ fun k : Fin 9 => iprop(∃ f, (thr d L).loc (refOf k) ↦{fullShare} f))
        ∗ (bigSep Finset.univ fun b : Fin 8 => idxLoc d ↦{q b} f1) ∗ (bigSep Finset.univ fun b : Fin 8 => srcLoc d ↦{q b} f2))
      = (iprop(Idles d L idxV srcV (Memref.whole cc0_scratch1) (Memref.whole cc0_scratch2) (Memref.whole cc0_scratch3) (Memref.whole cc0_scratch4)
            (Memref.whole cc0_scratch5) (Memref.whole cc0_scratch6) (Memref.whole cc0_scratch7) (Memref.whole cc0_scratch8)
            cc0_scratch9 cc0_scratch10 cc0_scratch11 cc0_scratch12 cc0_scratch13 cc0_scratch14 cc0_scratch15 cc0_scratch16 q f1 f2
          ∗ (∃ f, accV.view.loc (thr d L) ↦[accV.view.set]{fullShare} f)
          ∗ Cells d L ![cc0_scoped0.sem, cc0_scoped1.sem, cc0_scoped2.sem, cc0_scoped3.sem, cc0_scoped4.sem, cc0_scoped5.sem, cc0_scoped6.sem, cc0_scoped7.sem]
          ∗ Cells d L ![cc0_scoped8.sem, cc0_scoped9.sem, cc0_scoped10.sem, cc0_scoped11.sem, cc0_scoped12.sem, cc0_scoped13.sem, cc0_scoped14.sem, cc0_scoped15.sem]) : sProp 𝕄) := by
  rw [sorted]
  unfold Idles Idle Free Cells
  simp only [Memref.view_whole, View.set_whole]
  rfl

/-! ## The outputs' parts -/

theorem part_bounds {h c i : ℕ} {x : S128x10000.Idx} (hx : x ∈ part h c i) : i / 8 = h ∧ (c * 8 + i % 8) * 8 ≤ (x 0).val ∧ (x 0).val < (c * 8 + i % 8) * 8 + 8 := by
  obtain ⟨h1, h2⟩ := (Finset.mem_filter.mp hx).2
  omega

theorem mem_part {h c i : ℕ} {x : S128x10000.Idx} (hi : i / 8 = h) (h1 : (c * 8 + i % 8) * 8 ≤ (x 0).val) (h2 : (x 0).val < (c * 8 + i % 8) * 8 + 8) : x ∈ part h c i :=
  Finset.mem_filter.mpr ⟨Finset.mem_univ _, hi, by omega⟩

/-- A tile's part at the launch contents is an output of which nothing is written yet. -/
theorem out_start {O : Memref sig .scVector .hbm S128x10000 .f32} {S : Finset (Idx (O.view.loc (thr d L)))}
    (hS : ∀ x, O.view.emb x ∈ S → colOf L ≤ (x 0).val) (p : S128x10000.Idx → Elt F .f32) (f : Buf (Elt F) (O.view.loc (thr d L))) :
    (O.view.loc (thr d L) ↦[S]{fullShare} f : sProp 𝕄) ⊢ OutTo d L O S p (colOf L) := by
  unfold OutTo
  iintro H
  iexists f
  isplitr
  · ipureintro
    intro x hx hlt
    exact absurd (hS x hx) (by omega)
  · iexact H

/-- An output written below a column that bounds the tile's part is the part at its finished contents. -/
theorem out_end {O : Memref sig .scVector .hbm S128x10000 .f32} {S : Finset (Idx (O.view.loc (thr d L)))} {p : S128x10000.Idx → Elt F .f32} {n : ℕ}
    {g : Buf (Elt F) (O.view.loc (thr d L))}
    (h : ∀ f : Buf (Elt F) (O.view.loc (thr d L)), (∀ x, O.view.emb x ∈ S → (x 0).val < n → O.view.read (Elt F) f x = p x) → ∀ y ∈ S, f y = g y) :
    OutTo d L O S p n ⊢ (O.view.loc (thr d L) ↦[S]{fullShare} g : sProp 𝕄) := by
  unfold OutTo
  iintro ⟨%f, %hf, H⟩
  iapply (Entails.of_eq (pointsTo_congr (h f hf))) $$ H

/-- What the tile's accumulator ends with is its columns of its half's partial scatter. -/
theorem partial_slot {h : ℕ} (hh : (L 1).val / 8 = h) (r : Fin 8) (x : S128x10000.Idx) (hx : (x 0).val = colOf L + r.val) :
    partOf m d h x = accAt (idxOf m d) (srcOf m d) (rowOf L) (colOf L) 80000 (slot r.val (x 1).val) := by
  have h1 : (x 0).val / 8 * 8 = colOf L := by
    rw [hx]; unfold colOf; omega
  have h2 : (x 0).val % 8 = r.val := by
    rw [hx]; unfold colOf; omega
  unfold partOf partialT
  rw [h1, h2, ← hh]
  rfl

/-- The tile's task: from its shares of `index` and `src` and its parts of the outputs, to the parts finished. -/
theorem tile_body (hr : InRange m) (O : CellTallies nD τ sig (HIx 1)) (W : Waits sig (HIx 1)) (hO : ∀ g, O g none = 0) :
    iprop(levAts (K (F := F)).L (K (F := F)).lev ∗ emp ∗ goTile m d (L 0).val (L 1).val
        ∗ scopedBufs (thr d L) ∗ scopedSems0 (thr d L) ∗ owes (thr d L) O W)
      ⊢ wp frame (wpE (defs₀ (F := F)) 𝒱₀ (thr d L) none) Set.univ (tileProg d L)
          fun _ => iprop(doneTile m d (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), own_cells, own_bufs]
  iintro ⟨#Hlv, -, ⟨Hi, Hs, H0, H1⟩, ⟨Hb, Hbufs⟩, ⟨Hc, Hsems⟩, HO⟩
  ihave Hi' := (pointsTo_toks_split (ℓ := idxLoc d) (S := Finset.univ) (f := m (idxLoc d)) (tileShare (L 0).val (L 1).val) 8) $$ Hi
  icases Hi' with ⟨Hid, Hi⟩
  ihave Hs' := (pointsTo_toks_split (ℓ := srcLoc d) (S := Finset.univ) (f := m (srcLoc d)) (tileShare (L 0).val (L 1).val) 8) $$ Hs
  icases Hs' with ⟨Hsd, Hs⟩
  ihave Hall := (Entails.of_eq (sorted_tile d L (useShare (L 0).val (L 1).val) (m (idxLoc d)) (m (srcLoc d)))) $$ [Hc Hb Hi Hs]
  · isplitl [Hc]; · iexact Hc
    isplitl [Hb]; · iexact Hb
    isplitl [Hi]; · iexact Hi
    iexact Hs
  icases Hall with ⟨HI, Ha, HcA, HcB⟩
  ihave H0' := (out_start d L (O := p0V) (S := part 0 (L 0).val (L 1).val) (fun x hx => (part_bounds hx).2.1) (partOf m d 0) (m (p0Loc d))) $$ H0
  ihave H1' := (out_start d L (O := p1V) (S := part 1 (L 0).val (L 1).val) (fun x hx => (part_bounds hx).2.1) (partOf m d 1) (m (p1Loc d))) $$ H1
  iapply (wp_wand frame (wpE (defs₀ (F := F)) 𝒱₀ (thr d L) none) Set.univ (p := tileProg d L)) $$ [HI Ha HcA HcB H0' H1' HO]
  · iapply (wp_task d L idxV (Memref.isWhole_whole _) srcV (Memref.isWhole_whole _) p0V (Memref.isWhole_whole _) p1V (Memref.isWhole_whole _) accV (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      cc0_scratch9 cc0_scratch10 cc0_scratch11 cc0_scratch12 cc0_scratch13 cc0_scratch14 cc0_scratch15 cc0_scratch16
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
      (useShare (L 0).val (L 1).val) (m (idxLoc d)) (m (srcLoc d)) hO (fun y => hr d y)
      (S0 := part 0 (L 0).val (L 1).val) (S1 := part 1 (L 0).val (L 1).val) (p0 := partOf m d 0) (p1 := partOf m d 1)
      (fun h x h1 h2 => mem_part h h1 h2) (fun h x h1 h2 => mem_part h h1 h2)
      (fun h r x hx => partial_slot m d L h r x hx) (fun h r x hx => partial_slot m d L h r x hx))
    isplitr; · iexact Hlv
    isplitl [HI]; · iexact HI
    isplitl [Ha]; · iexact Ha
    isplitl [HcA]; · iexact HcA
    isplitl [HcB]; · iexact HcB
    isplitl [H0']; · iexact H0'
    isplitl [H1']; · iexact H1'
    iexact HO
  iintro %_ ⟨HI, Ha, HcA, HcB, H0, H1, HO⟩
  ihave Hall := (Entails.of_eq (sorted_tile d L (useShare (L 0).val (L 1).val) (m (idxLoc d)) (m (srcLoc d))).symm) $$ [HI Ha HcA HcB]
  · isplitl [HI]; · iexact HI
    isplitl [Ha]; · iexact Ha
    isplitl [HcA]; · iexact HcA
    iexact HcB
  icases Hall with ⟨Hc, Hb, Hi, Hs⟩
  isplitl [Hi Hid Hs Hsd H0 H1]
  · isplitl [Hi Hid]
    · iapply (pointsTo_toks_join (ℓ := idxLoc d) (S := Finset.univ) (f := m (idxLoc d)) (tileShare (L 0).val (L 1).val) 8)
      isplitl [Hid]; · iexact Hid
      iexact Hi
    isplitl [Hs Hsd]
    · iapply (pointsTo_toks_join (ℓ := srcLoc d) (S := Finset.univ) (f := m (srcLoc d)) (tileShare (L 0).val (L 1).val) 8)
      isplitl [Hsd]; · iexact Hsd
      iexact Hs
    isplitl [H0]
    · iapply (out_end d L (O := p0V) (p := partOf m d 0) (g := partOf m d 0) (fun f hf y hy => hf y hy (by have := part_bounds hy; rw [if_pos this.1]; exact this.2.2))) $$ H0
    · iapply (out_end d L (O := p1V) (p := partOf m d 1) (g := partOf m d 1) (fun f hf y hy => hf y hy (by have := part_bounds hy; rw [if_pos this.1]; exact this.2.2))) $$ H1
  isplitl [Hb Hbufs]
  · isplitl [Hb]; · iexact Hb
    iexact Hbufs
  isplitl [Hc Hsems]
  · isplitl [Hc]; · iexact Hc
    iexact Hsems
  unfold Owing
  iexact HO

end Tile

/-! ## What the call carries -/

/-- The call hands each SparseCore a share of `index` and `src` and its tiles' parts of the two outputs, and each tile its
    share of those; they come back with the outputs' parts finished. -/
def P : (K (F := F)).Pay (nD := nD) (Val := Elt F) (Name := ℕ) (U := UU) where
  st := fun q d c => match q with
    | 0 => iprop((idxLoc d ↦{coreShare c.val} m (idxLoc d)) ∗ (srcLoc d ↦{coreShare c.val} m (srcLoc d))
        ∗ (bigSep Finset.univ fun i : Fin 16 => p0Loc d ↦[part 0 c.val i.val]{fullShare} m (p0Loc d))
        ∗ (bigSep Finset.univ fun i : Fin 16 => p1Loc d ↦[part 1 c.val i.val]{fullShare} m (p1Loc d)))
  dn := fun q d c => match q with
    | 0 => iprop((idxLoc d ↦{coreShare c.val} m (idxLoc d)) ∗ (srcLoc d ↦{coreShare c.val} m (srcLoc d))
        ∗ (bigSep Finset.univ fun i : Fin 16 => p0Loc d ↦[part 0 c.val i.val]{fullShare} partOf m d 0)
        ∗ (bigSep Finset.univ fun i : Fin 16 => p1Loc d ↦[part 1 c.val i.val]{fullShare} partOf m d 1))
  go := fun q d c i => match q with
    | 0 => goTile m d c.val i.val
  td := fun q d c i => match q with
    | 0 => doneTile m d c.val i.val
  x := fun _ _ => iprop(emp)

instance P_storable : (P (F := F) m).IsStorable where
  st q d c := match q with
    | 0 => (inferInstance : BI.Storable (upEmb : UEmb _ 𝕄) iprop((idxLoc d ↦{coreShare c.val} m (idxLoc d)) ∗ (srcLoc d ↦{coreShare c.val} m (srcLoc d))
        ∗ (bigSep Finset.univ fun i : Fin 16 => p0Loc d ↦[part 0 c.val i.val]{fullShare} m (p0Loc d))
        ∗ (bigSep Finset.univ fun i : Fin 16 => p1Loc d ↦[part 1 c.val i.val]{fullShare} m (p1Loc d))))
  dn q d c := match q with
    | 0 => (inferInstance : BI.Storable (upEmb : UEmb _ 𝕄) iprop((idxLoc d ↦{coreShare c.val} m (idxLoc d)) ∗ (srcLoc d ↦{coreShare c.val} m (srcLoc d))
        ∗ (bigSep Finset.univ fun i : Fin 16 => p0Loc d ↦[part 0 c.val i.val]{fullShare} partOf m d 0)
        ∗ (bigSep Finset.univ fun i : Fin 16 => p1Loc d ↦[part 1 c.val i.val]{fullShare} partOf m d 1)))
  go q d c i := match q with
    | 0 => (inferInstance : BI.Storable (upEmb : UEmb _ 𝕄) (goTile m d c.val i.val))
  td q d c i := match q with
    | 0 => (inferInstance : BI.Storable (upEmb : UEmb _ 𝕄) (doneTile m d c.val i.val))

/-! ## The launch's obligations for the call -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The subcores' entry of the body table: the tile's task at its own coordinates. -/
theorem defs₀_vector (d : Dev nD) (c : Fin τ.nSC) (s : Fin τ.nSub) :
    defs₀ (F := F) (.scVector c s) 0 () = SparseCore.onTile hcore0 hsub0 (fun c s => tileProg (F := F) d (coordsV c s)) ⟨⟩ c s :=
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, %W', %h, HO⟩
  isplitl [HA]; · iexact HA
  isplitl [HB]; · iexact HB
  isplitl [HC]; · iexact HC
  iexists W'
  isplitr
  · ipureintro
    exact fun p hp => (h p hp).imp id Or.inl
  · iexact HO

theorem tileObl (hr : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector d]
  simp only [SparseCore.onTile, hc, and_self, ↓reduceDIte]
  exact (tile_body m d (coordsV ⟨_, hc.1⟩ ⟨_, hc.2⟩) hr O W hO).trans (wp_mono frame _ _ fun _ => obl_post)

/-- The call's operands split over the sixteen tiles and gather from them; what is left of the read shares waits between. -/
theorem vecSplit : (K (F := F)).VecSplit' (P m) 0 := by
  intro d c
  show iprop((idxLoc d ↦{coreShare c.val} m (idxLoc d)) ∗ (srcLoc d ↦{coreShare c.val} m (srcLoc d))
        ∗ (bigSep Finset.univ fun i : Fin 16 => p0Loc d ↦[part 0 c.val i.val]{fullShare} m (p0Loc d))
        ∗ (bigSep Finset.univ fun i : Fin 16 => p1Loc d ↦[part 1 c.val i.val]{fullShare} m (p1Loc d)))
      ⊢ |={Set.univ}=> iprop((bigSep Finset.univ fun i : Fin 16 => goTile m d c.val i.val)
        ∗ ((bigSep Finset.univ fun i : Fin 16 => doneTile m d c.val i.val) -∗
          iprop((idxLoc d ↦{coreShare c.val} m (idxLoc d)) ∗ (srcLoc d ↦{coreShare c.val} m (srcLoc d))
        ∗ (bigSep Finset.univ fun i : Fin 16 => p0Loc d ↦[part 0 c.val i.val]{fullShare} partOf m d 0)
        ∗ (bigSep Finset.univ fun i : Fin 16 => p1Loc d ↦[part 1 c.val i.val]{fullShare} partOf m d 1))))
  simp only [bigSep_sep']
  iintro ⟨Hi, Hs, H0, H1⟩
  ihave Hi' := (pointsTo_toks_split (ℓ := idxLoc d) (S := Finset.univ) (f := m (idxLoc d)) (coreShare c.val) 16) $$ Hi
  icases Hi' with ⟨Hid, Hi⟩
  ihave Hs' := (pointsTo_toks_split (ℓ := srcLoc d) (S := Finset.univ) (f := m (srcLoc d)) (coreShare c.val) 16) $$ Hs
  icases Hs' with ⟨Hsd, Hs⟩
  imodintro
  isplitl [Hi Hs H0 H1]
  · isplitl [Hi]; · iexact Hi
    isplitl [Hs]; · iexact Hs
    isplitl [H0]; · iexact H0
    iexact H1
  iintro ⟨Hi, Hs, H0, H1⟩
  isplitl [Hi Hid]
  · iapply (pointsTo_toks_join (ℓ := idxLoc d) (S := Finset.univ) (f := m (idxLoc d)) (coreShare c.val) 16)
    isplitl [Hid]; · iexact Hid
    iexact Hi
  isplitl [Hs Hsd]
  · iapply (pointsTo_toks_join (ℓ := srcLoc d) (S := Finset.univ) (f := m (srcLoc d)) (coreShare c.val) 16)
    isplitl [Hsd]; · iexact Hsd
    iexact Hs
  isplitl [H0]; · iexact H0
  iexact H1

end Cert.Proof.Scatter

end
-- ==== Proof.Region.lean ====
/-
  The second call: the TensorCore adds `input` and the transposes of the two partial scatters. Its body run, its proof data
  over the arrays' contents at entry, and the call as one region of the launch's thread state, entered with every array at
  a valuation and left with the result's array written.
-/
module

public import proofs.«01_k».proof.Proof.Setup
public import Idealize.ShloMosaic.Lib.Pipeline.RegionsLoop
public import Idealize.ShloMosaic.Lib.Pipeline.ValueKit
public import Idealize.ShloMosaic.Lib.Claim

@[expose] public section

noncomputable section

namespace Cert.Proof.Scatter

open Cert.KernelIdeal Cert.KernelIdeal.Gen
open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MM F

/-! ## The body -/

abbrev Bf (d : Dev nD) {sp : Space} {S : Shape} {e : EltTy} (M : Memref sig .tc sp S e) : Type := Buf (Elt F) (M.view.loc (d.tc : Thread nD τ))
abbrev pt (d : Dev nD) {sp : Space} {S : Shape} {e : EltTy} (M : Memref sig .tc sp S e) (f : Bf (F := F) d M) : sProp 𝕄 :=
  M.view.loc (d.tc : Thread nD τ) ↦{fullShare} f

theorem zeros : (![0, 0] : Fin 2 → ℕ) = fun _ => 0 := by decide

/-- A load of a whole view reads its contents, -/
theorem readAt_all {κ : Kind} {sp : Space} {s : Shape} {e : EltTy} (v : View sig κ sp s e) {off : Fin s.rank → ℕ} (h : off = fun _ => 0)
    (inb : ∀ a, off a + s.size a ≤ s.size a) (f : v.ty.Contents (Elt F)) :
    v.readAt (Elt F) (Rect.unit off s.size inb).toLoadRect f = v.read (Elt F) f := by
  subst h; funext x; exact congrArg (v.read (Elt F) f) (Rect.emb_whole_apply s x)

/-- and a store to a whole view leaves what is stored. -/
theorem read_writes_all {κ : Kind} {sp : Space} {s : Shape} {e : EltTy} (v : View sig κ sp s e) (f : v.ty.Contents (Elt F)) {off : Fin s.rank → ℕ} (h : off = fun _ => 0)
    (inb : ∀ a, off a + s.size a ≤ s.size a) (w : s.Idx → Elt F e) :
    v.read (Elt F) (v.writes (Elt F) f [⟨Rect.unit off s.size inb, w⟩]) = w := by
  subst h; funext y
  have h := View.read_writes_cons_emb (Val := Elt F) v (f := f) (Rect.unit (fun _ => 0) s.size inb) w [] y
  rwa [show (Rect.unit (fun _ => 0) s.size inb).emb y = y from Rect.emb_whole_apply s y] at h

/-- What the body leaves in the result's staging buffer over the three it reads, with the run that leaves it. -/
def addRun (d : Dev nD) (i : grid1.Coords) (M0 : Memref sig .tc .vmem S128x10000 .f32) (h0 : M0.IsWhole) (M1 : Memref sig .tc .vmem S128x10000 .f32) (h1 : M1.IsWhole)
    (M2 : Memref sig .tc .vmem S10000x128 .f32) (h2 : M2.IsWhole) (M3 : Memref sig .tc .vmem S10000x128 .f32) (h3 : M3.IsWhole)
    (f0 : Bf (F := F) d M0) (f1 : Bf (F := F) d M1) (f2 : Bf (F := F) d M2) :
    { W : Bf (F := F) d M3 // ∀ (f3 : Bf (F := F) d M3) (E : Set ℕ) (Q : PUnit → sProp 𝕄),
        iprop(pt d M0 f0 ∗ pt d M1 f1 ∗ pt d M2 f2 ∗ pt d M3 f3 ∗ (iprop(pt d M0 f0 ∗ pt d M1 f1 ∗ pt d M2 f2 ∗ pt d M3 W) -∗ Q ⟨⟩))
          ⊢ wp frame (wpE (defs₀ (F := F)) 𝒱₀ (d.tc : Thread nD τ) none) E (cc1__t2_body i M0 h0 M1 h1 M2 h2 M3 h3) Q } := by
  refine ⟨?_, fun f3 E Q => ?run⟩
  case run =>
    simp only [cc1__t2_body_eq_skeleton]
    unfold cc1__t2_body_skel
    iintro ⟨H0, H1, H2, H3, Hk⟩
    sl_exec!
    sl_step
    iapply Hk
    isplitl [H0]; · iexact H0
    isplitl [H1]; · iexact H1
    isplitl [H2]; · iexact H2
    iexact H3

/-- What it leaves, read: the sum of the three blocks, the partial scatters transposed. -/
theorem addRun_val (d : Dev nD) (i : grid1.Coords) (M0 : Memref sig .tc .vmem S128x10000 .f32) (h0 : M0.IsWhole) (M1 : Memref sig .tc .vmem S128x10000 .f32) (h1 : M1.IsWhole)
    (M2 : Memref sig .tc .vmem S10000x128 .f32) (h2 : M2.IsWhole) (M3 : Memref sig .tc .vmem S10000x128 .f32) (h3 : M3.IsWhole)
    (f0 : Bf (F := F) d M0) (f1 : Bf (F := F) d M1) (f2 : Bf (F := F) d M2) :
    M3.view.read (Elt F) (addRun d i M0 h0 M1 h1 M2 h2 M3 h3 f0 f1 f2).1 = k1_pay1 (M2.view.read (Elt F) f2) (M0.view.read (Elt F) f0) (M1.view.read (Elt F) f1) := by
  unfold addRun addRun.sl.H3_1
  simp only []
  exact (read_writes_all M3.view _ zeros _ _).trans
    (congr (congr (congrArg _ (readAt_all M2.view zeros _ f2)) (readAt_all M0.view zeros _ f0)) (readAt_all M1.view zeros _ f1))

/-! ## The proof data -/

variable (V : (d : Dev nD) → (b : Ref sig .tc) → Buf (Elt F) ((d.tc : Thread nD τ).loc b))

/-- Each window's block as the fetch stages it: the array at the entry valuation. -/
abbrev stg0 (d : Dev nD) : (cfg1.win 0).block.Idx → Elt F (cfg1.win 0).elt := ((cfg1.win 0).blk t1_0).view.read (Elt F) (V d main_v0_0)
abbrev stg1 (d : Dev nD) : (cfg1.win 1).block.Idx → Elt F (cfg1.win 1).elt := ((cfg1.win 1).blk t1_0).view.read (Elt F) (V d main_v0_1)
abbrev stg2 (d : Dev nD) : (cfg1.win 2).block.Idx → Elt F (cfg1.win 2).elt := ((cfg1.win 2).blk t1_0).view.read (Elt F) (V d main_arg0)

/-- The block of the result: the sum of the three, the partial scatters transposed. -/
abbrev sumOf (d : Dev nD) : S10000x128.Idx → Elt F .f32 := k1_pay1 (F := F) (stg2 V d) (stg0 V d) (stg1 V d)

abbrev Φc (d : Dev nD) : sProp 𝕄 := Pipeline.scopedRest (Ix := HIx 1) (Name := ℕ) (U := UU) (Lvl := ℕ) (Val := Elt F) spec1 d

/-- The pairs at or below a level, for the TensorCore of `d`: what its waits have recorded before the call stays below. -/
def below (d : Dev nD) (b : ℕ) : Set (SemLoc sig × HIx 1) := {p | (K (F := F)).lev ((d.tc : Thread nD τ), p.1) p.2 ≤ b}

variable (b : ℕ)

def dat (d : Dev nD) : Dat τ (Elt F) (HIx 1) ℕ UU ℕ cfg1 d where
  A w := V d (Pipeline.arrRef spec1 w)
  after w _ := match w with
    | ⟨0, _⟩ => stg0 V d
    | ⟨1, _⟩ => stg1 V d
    | ⟨2, _⟩ => stg2 V d
    | ⟨3, _⟩ => sumOf V d
  Φ _ := Φc d
  q _ := fullShare
  owed _ := 0
  recorded _ := below (F := F) d b

variable (adm : (p : Fin 1) → (pcfgs (F := F) p).Adm)

def pdats : (p : Fin 1) → (d : Dev nD) → Dat τ (Elt F) (HIx 1) ℕ UU ℕ (Pipeline.pin (pcfgs (F := F)) adm p) d
  | ⟨0, _⟩ => fun d => dat V b d

theorem before0 (d : Dev nD) (g : (cfg1.win 0).block.Idx → Elt F (cfg1.win 0).elt) : (dat V b d).before 0 t1_0 g = stg0 V d := by
  unfold Dat.before; rw [if_pos (by decide)]; rfl
theorem before1 (d : Dev nD) (g : (cfg1.win 1).block.Idx → Elt F (cfg1.win 1).elt) : (dat V b d).before 1 t1_0 g = stg1 V d := by
  unfold Dat.before; rw [if_pos (by decide)]; rfl
theorem before2 (d : Dev nD) (g : (cfg1.win 2).block.Idx → Elt F (cfg1.win 2).elt) : (dat V b d).before 2 t1_0 g = stg2 V d := by
  unfold Dat.before; rw [if_pos (by decide)]; rfl

/-- A whole memref owned at a block is its buffer held whole, reading the block. -/
theorem owns_held (d : Dev nD) {S : Shape} {e : EltTy} {M : Memref sig .tc .vmem S e} (h : M.IsWhole) (X : S.Idx → Elt F e) :
    (owns (d.tc : Thread nD τ) M fullShare X : sProp 𝕄) = iprop(∃ f, ⌜M.view.read (Elt F) f = X⌝ ∗ pt d M f) := by
  unfold owns pt
  rw [h.set_eq_univ]

theorem body_obligation (d : Dev nD) : BodyObligation (dat V b d) (defs₀ (F := F)) 𝒱₀ none Set.univ := fun t => by
  obtain rfl := fin_N1 t
  rw [bigSep_W1, bigSep_W1]
  have e0 := owns_held (F := F) d (M := st1_0 t1_0) (hstage1_0 ((cfg1.slots t1_0 0).cast nbuf1_0))
  have e1 := owns_held (F := F) d (M := st1_1 t1_0) (hstage1_1 ((cfg1.slots t1_0 1).cast nbuf1_1))
  have e2 := owns_held (F := F) d (M := st1_2 t1_0) (hstage1_2 ((cfg1.slots t1_0 2).cast nbuf1_2))
  have e3 := owns_held (F := F) d (M := st1_3 t1_0) (hstage1_3 ((cfg1.slots t1_0 3).cast nbuf1_3))
  rw [show (dat V b d).Φ t1_0.castSucc = Φc d from rfl, show (dat V b d).Φ t1_0.succ = Φc d from rfl,
    show (dat V b d).owesAt none t1_0.succ = (dat V b d).owesAt none t1_0.castSucc from rfl]
  iintro ⟨HΦ, Howes, ⟨%d0, H0⟩, ⟨%d1, H1⟩, ⟨%d2, H2⟩, ⟨%d3, H3⟩⟩
  rw [before0, before1, before2]
  ihave H0 := (Entails.of_eq (e0 (stg0 V d))) $$ H0
  icases H0 with ⟨%f0, %hf0, H0⟩
  ihave H1 := (Entails.of_eq (e1 (stg1 V d))) $$ H1
  icases H1 with ⟨%f1, %hf1, H1⟩
  ihave H2 := (Entails.of_eq (e2 (stg2 V d))) $$ H2
  icases H2 with ⟨%f2, %hf2, H2⟩
  ihave H3 := (Entails.of_eq (e3 ((dat V b d).before 3 t1_0 d3))) $$ H3
  icases H3 with ⟨%f3, -, H3⟩
  have hv := addRun_val d (grid1.coords t1_0) (st1_0 t1_0) (hstage1_0 ((cfg1.slots t1_0 0).cast nbuf1_0)) (st1_1 t1_0) (hstage1_1 ((cfg1.slots t1_0 1).cast nbuf1_1)) (st1_2 t1_0) (hstage1_2 ((cfg1.slots t1_0 2).cast nbuf1_2)) (st1_3 t1_0) (hstage1_3 ((cfg1.slots t1_0 3).cast nbuf1_3)) f0 f1 f2
  rw [hf0, hf1, hf2] at hv
  iapply ((addRun d (grid1.coords t1_0) (st1_0 t1_0) (hstage1_0 ((cfg1.slots t1_0 0).cast nbuf1_0)) (st1_1 t1_0) (hstage1_1 ((cfg1.slots t1_0 1).cast nbuf1_1)) (st1_2 t1_0) (hstage1_2 ((cfg1.slots t1_0 2).cast nbuf1_2)) (st1_3 t1_0) (hstage1_3 ((cfg1.slots t1_0 3).cast nbuf1_3)) f0 f1 f2).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]
  · iapply (Entails.of_eq (e0 _).symm); iexists f0; isplitr; swap; (· iexact H0); ipureintro; exact hf0
  isplitl [H1]
  · iapply (Entails.of_eq (e1 _).symm); iexists f1; isplitr; swap; (· iexact H1); ipureintro; exact hf1
  isplitl [H2]
  · iapply (Entails.of_eq (e2 _).symm); iexists f2; isplitr; swap; (· iexact H2); ipureintro; exact hf2
  iapply (Entails.of_eq (e3 _).symm); iexists _; isplitr; swap; (· iexact H3); ipureintro; exact hv

/-! ## The region over the thread state -/

/-- The result's array after the region. -/
def added (d : Dev nD) : Buf (Elt F) ((d.tc : Thread nD τ).loc main_v1) := (dat V b d).arrAt 3 cfg1.N

variable (Vp : (d : Dev nD) → (b : Ref sig .tc) → Buf (Elt F) ((d.tc : Thread nD τ).loc b))

/-- What the TensorCore's thread holds around the call: its arrays at a valuation, and that it owes nothing, its waits so far
    below `b`. -/
abbrev around (W : (d : Dev nD) → (b : Ref sig .tc) → Buf (Elt F) ((d.tc : Thread nD τ).loc b)) (d : Dev nD) : sProp 𝕄 :=
  iprop(unscopedBufs d (W d) ∗ ∃ Ws, ⌜∀ p ∈ Ws, p ∈ below (F := F) d b⌝ ∗ owes (d.tc : Thread nD τ) (0 : CellTallies nD τ sig (HIx 1)) Ws)

set_option backward.isDefEq.respectTransparency.types false in
/-- The call as a region: entered with the arrays at `V`, left with the result's array written and the others as they were. -/
def region (hVp_out : ∀ d, Vp d main_v1 = added V b d) (hVp_ne : ∀ d (r : Ref sig .tc), r ≠ main_v1 → Vp d r = V d r) :
    Pipeline.RegionSeg (pcfgs (F := F)) adm (pdats V b adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation V b d).loose
  hwaits := Pipeline.hwaits_of_owed_zero _ _ _ _ (K (F := F)).L (K (F := F)).lev 0 fun _ _ => rfl
  pre := around b V
  post := around b Vp
  X _ := BI.emp
  Y _ := BI.emp
  Z d := Pipeline.unscopedRest (Ix := HIx 1) (Name := ℕ) (U := UU) (Lvl := ℕ) spec1 d (V d)
  hentry d := by
    rw [Pipeline.ownSems0_none]
    have hsplit := Pipeline.arrays_of_unscopedBufs (p := 0) (pcfgs (F := F)) adm (pdats V b adm) launch1.win launch1.arr_whole d
      ((pdats V b adm 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats V b adm 0 d).Φ 0 = Φc d from rfl]
    iintro ⟨-, -, Hr⟩; iexact Hr
  hout d := by
    rw [Pipeline.ownSems0_none, show (pdats V b adm 0 d).Φ (Fin.last _) = Φc d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats V b adm) ((pdats V b adm 0 d).share_full fun _ => rfl) (V d) (Vp d) ((pdats V b adm 0 d).arrAt · cfg1.N)
      (fun w => by
        fin_cases w
        · exact ((pdats V b adm 0 d).arrAt_in 0 rfl _).trans (hVp_ne d main_v0_0 (by decide)).symm
        · exact ((pdats V b adm 0 d).arrAt_in 1 rfl _).trans (hVp_ne d main_v0_1 (by decide)).symm
        · exact ((pdats V b adm 0 d).arrAt_in 2 rfl _).trans (hVp_ne d main_arg0 (by decide)).symm
        · exact (hVp_out d).symm)
      (fun r hr => hVp_ne d r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    · iexact HO

/-! ## What the call computes -/

/-- The one block of each window is its whole array. -/
theorem emb_one (w : Fin 4) (h : ∀ a, (cfg1.win w).index t1_0 a = 0) (y : ((cfg1.win w).xblock (cfg1.grid.coords t1_0)).Idx) (a : Fin (cfg1.win w).shape.rank) :
    (((cfg1.win w).rect t1_0).emb y a).val = (y a).val :=
  Pipeline.Window.rect_emb_val_of_index_zero (cfg1.win w) t1_0 a (h a) y
theorem stg0_eq (d : Dev nD) : stg0 V d = V d main_v0_0 :=
  funext fun y => congrArg (V d main_v0_0) (funext fun a => Fin.ext (emb_one 0 (by decide +kernel) y a))
theorem stg1_eq (d : Dev nD) : stg1 V d = V d main_v0_1 :=
  funext fun y => congrArg (V d main_v0_1) (funext fun a => Fin.ext (emb_one 1 (by decide +kernel) y a))
theorem stg2_eq (d : Dev nD) : stg2 V d = V d main_arg0 :=
  funext fun y => congrArg (V d main_arg0) (funext fun a => Fin.ext (emb_one 2 (by decide +kernel) y a))

/-- The result's array after the call. -/
theorem added_eq (d : Dev nD) : added V b d = k1_pay1 (F := F) (V d main_arg0) (V d main_v0_0) (V d main_v0_1) := by
  refine (dat V b d).arrAt_eq_of_after_last 3 t1_0 (by decide +kernel) _ fun j => ?_
  blk_simp
  show sumOf V d j = _
  unfold sumOf
  rw [stg0_eq, stg1_eq, stg2_eq]

end Cert.Proof.Scatter

end
-- ==== Proof.Main.lean ====
/-
  The whole program's run: the launch's ghost state, `@main` on the TensorCore — the SparseCore call, then the call that adds
  the two partial scatters to `input` — and what every execution ends with.
-/
module

public import proofs.«01_k».proof.Proof.Tile
public import proofs.«01_k».proof.Proof.Region

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN pointsTo_toks_split pointsTo_toks_join)

variable {F : FTy → Type} [FloatOps F]

local notation "𝕄" => MM F

variable (m : (ℓ : Loc nD τ sig) → Buf (Elt F) ℓ) (ρ : Dev nD → PrngReg)

/-! ## The launch's ghost state -/

/-- The pipeline of the second call prefetches no table. -/
def adm : (p : Fin 1) → (pcfgs (F := F) p).Adm := fun p => (cfgs p).toPCfg_adm

/-- The handshakes' cells, the pipeline's staging cells, and the tiles' transfer counters. -/
def u₀ : UU := (initOf (K (F := F)).hsCells (K (F := F)).hsToks, initOf (Pipeline.cells (nD := nD) (τ := τ) cfgs cellOf_inj) (Pipeline.launchToks cfgs cellOf_inj), 1)

/-- What a TensorCore starts with for its pipeline. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem fund : (BI.own (EP (initOf (Pipeline.cells (nD := nD) (τ := τ) cfgs cellOf_inj) (Pipeline.launchToks cfgs cellOf_inj))) : sProp 𝕄)
    ⊢ |==> bigSep Finset.univ fun d : Dev nD => ghost (F := F) d := by
  refine (Pipeline.fund_ghost (Ix := HIx 1) (Val := Elt F) (Name := ℕ) (U := UU) (Lvl := ℕ) (nD := nD) (τ := τ) cfgs EP cellOf_inj).trans (bupd_mono ?_)
  rw [bigSep_sep']
  exact BIClass.sep_mono (Entails.of_eq (bigSep_congr fun d _ => bigSep_univ_of_subsingleton (0 : Fin 1)))
    (Entails.of_eq (bigSep_congr fun d _ => bigSep_univ_of_subsingleton (0 : Fin 1)))

omit [FloatOps F] in
theorem EP_eq : (((Emb.inl : Emb UP (UP × Counters)).trans embR : Emb UP 𝕄)) = EP := rfl

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UP × Counters)) $$ Hu
  icases H with ⟨HH, HR⟩
  ihave H := (own_pair_emb _ (initOf (Pipeline.cells (nD := nD) (τ := τ) cfgs cellOf_inj) (Pipeline.launchToks cfgs cellOf_inj) : UP) (1 : Counters)) $$ HR
  icases H with ⟨HP, -⟩
  ihave HP := (Entails.of_eq (congrArg (fun E : Emb UP 𝕄 => (BI.own (E (initOf (Pipeline.cells (nD := nD) (τ := τ) cfgs cellOf_inj) (Pipeline.launchToks cfgs cellOf_inj))) : sProp 𝕄)) EP_eq)) $$ HP
  imod fund $$ HP with HG
  imodintro
  isplitl [HH]; · iexact HH
  isplitl [HG]; · iexact HG
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-! ## The arrays -/

omit [FloatOps F] in
theorem unscopedBufs_eq (d : Dev nD) (W : (b : Ref sig .tc) → Buf (Elt F) ((d.tc : Thread nD τ).loc b)) :
    (unscopedBufs d W : sProp 𝕄) = iprop((inLoc d ↦{fullShare} W main_arg0) ∗ (idxLoc d ↦{fullShare} W main_arg1) ∗ (srcLoc d ↦{fullShare} W main_arg2)
      ∗ (p0Loc d ↦{fullShare} W main_v0_0) ∗ (p1Loc d ↦{fullShare} W main_v0_1) ∗ outLoc d ↦{fullShare} W main_v1) := by
  unfold unscopedBufs
  rw [show (Finset.univ.filter fun b : Ref sig .tc => ¬ b.isScoped) = {main_arg0, main_arg1, main_arg2, main_v0_0, main_v0_1, main_v1} by decide,
    SparseCore.bigSep_insert' (by decide), SparseCore.bigSep_insert' (by decide), SparseCore.bigSep_insert' (by decide),
    SparseCore.bigSep_insert' (by decide), SparseCore.bigSep_insert' (by decide), bigSep_singleton]

/-- The arrays when the SparseCore call is done, -/
def mid (d : Dev nD) (b : Ref sig .tc) : Buf (Elt F) ((d.tc : Thread nD τ).loc b) :=
  Function.update (Function.update (fun b : Ref sig .tc => m ((d.tc : Thread nD τ).loc b)) main_v0_0 (partOf m d 0)) main_v0_1 (partOf m d 1) b

/-- the result, -/
def resultOf (d : Dev nD) : S10000x128.Idx → Elt F .f32 := k1_pay1 (F := F) (m (inLoc d)) (partOf m d 0) (partOf m d 1)

/-- and the arrays at the end. -/
def fin (d : Dev nD) (b : Ref sig .tc) : Buf (Elt F) ((d.tc : Thread nD τ).loc b) :=
  Function.update (mid m d) main_v1 (resultOf m d) b

theorem mid_in (d : Dev nD) : mid m d main_arg0 = m (inLoc d) := rfl
theorem mid_idx (d : Dev nD) : mid m d main_arg1 = m (idxLoc d) := rfl
theorem mid_src (d : Dev nD) : mid m d main_arg2 = m (srcLoc d) := rfl
theorem mid_p0 (d : Dev nD) : mid m d main_v0_0 = partOf m d 0 := rfl
theorem mid_p1 (d : Dev nD) : mid m d main_v0_1 = partOf m d 1 := rfl
theorem mid_out (d : Dev nD) : mid m d main_v1 = m (outLoc d) := rfl
theorem fin_in (d : Dev nD) : fin m d main_arg0 = m (inLoc d) := rfl
theorem fin_idx (d : Dev nD) : fin m d main_arg1 = m (idxLoc d) := rfl
theorem fin_src (d : Dev nD) : fin m d main_arg2 = m (srcLoc d) := rfl
theorem fin_out (d : Dev nD) : fin m d main_v1 = resultOf m d := rfl

/-- An output is its tiles' parts. -/
theorem parts_disjoint (h : ℕ) (c i c' i' : ℕ) (hne : (c, i) ≠ (c', i')) : Disjoint (part h c i) (part h c' i') := by
  refine Finset.disjoint_left.mpr fun y h1 h2 => hne ?_
  have a := part_bounds h1
  have b := part_bounds h2
  exact Prod.ext (by show c = c'; omega) (by show i = i'; omega)

theorem parts_cover (h : ℕ) (hh : h < 2) (x : S128x10000.Idx) : ∃ (c : Fin 2) (i : Fin 16), x ∈ part h c.val i.val := by
  have hx : (x 0).val < 128 := (x 0).isLt
  refine ⟨⟨(x 0).val / 64, by omega⟩, ⟨h * 8 + (x 0).val / 8 % 8, by omega⟩, mem_part ?_ ?_ ?_⟩ <;> dsimp only <;> omega

theorem split_parts {ℓ : Loc nD τ sig} {f : Buf (Elt F) ℓ} (A : Fin 2 → Fin 16 → Finset (Idx ℓ))
    (hd : ∀ c i c' i', (c, i) ≠ (c', i') → Disjoint (A c i) (A c' i')) (hc : ∀ x, ∃ c i, x ∈ A c i) :
    (ℓ ↦{fullShare} f : sProp 𝕄) = bigSep Finset.univ fun c : Fin 2 => bigSep Finset.univ fun i : Fin 16 => ℓ ↦[A c i]{fullShare} f := by
  classical
  have hu : (Finset.univ : Finset (Idx ℓ)) = Finset.univ.biUnion fun c : Fin 2 => Finset.univ.biUnion fun i : Fin 16 => A c i := by
    ext x
    obtain ⟨c, i, h⟩ := hc x
    simp only [Finset.mem_univ, Finset.mem_biUnion, true_and, true_iff]
    exact ⟨c, i, h⟩
  rw [hu, pointsTo_biUnion]
  · exact bigSep_congr fun c _ => pointsTo_biUnion _ _ fun i _ i' _ hne => hd _ _ _ _ fun h => hne (congrArg Prod.snd h)
  · intro c _ c' _ hne
    refine Finset.disjoint_biUnion_left _ _ _ |>.mpr fun i _ => Finset.disjoint_biUnion_right _ _ _ |>.mpr fun i' _ => ?_
    exact hd _ _ _ _ fun h => hne (congrArg Prod.fst h)

theorem split_p0 (d : Dev nD) (f : Buf (Elt F) (p0Loc d)) :
    (p0Loc d ↦{fullShare} f : sProp 𝕄) = bigSep Finset.univ fun c : Fin 2 => bigSep Finset.univ fun i : Fin 16 => p0Loc d ↦[part 0 c.val i.val]{fullShare} f :=
  split_parts (ℓ := p0Loc d) (fun c i => part 0 c.val i.val)
    (fun _ _ _ _ hne => parts_disjoint 0 _ _ _ _ fun h => hne (Prod.ext (Fin.ext (congrArg Prod.fst h)) (Fin.ext (congrArg Prod.snd h))))
    (parts_cover 0 (by decide))
theorem split_p1 (d : Dev nD) (f : Buf (Elt F) (p1Loc d)) :
    (p1Loc d ↦{fullShare} f : sProp 𝕄) = bigSep Finset.univ fun c : Fin 2 => bigSep Finset.univ fun i : Fin 16 => p1Loc d ↦[part 1 c.val i.val]{fullShare} f :=
  split_parts (ℓ := p1Loc d) (fun c i => part 1 c.val i.val)
    (fun _ _ _ _ hne => parts_disjoint 1 _ _ _ _ fun h => hne (Prod.ext (Fin.ext (congrArg Prod.fst h)) (Fin.ext (congrArg Prod.snd h))))
    (parts_cover 1 (by decide))

/-- What the SparseCore call takes, array by array, -/
theorem st0_eq (d : Dev nD) : (bigSep Finset.univ fun c : Fin ((K (F := F)).nCore 0) => (P m).st 0 d c)
    = iprop((bigSep Finset.univ fun c : Fin 2 => idxLoc d ↦{shareTok fullShare 2 c} m (idxLoc d)) ∗ (bigSep Finset.univ fun c : Fin 2 => srcLoc d ↦{shareTok fullShare 2 c} m (srcLoc d))
        ∗ (p0Loc d ↦{fullShare} m (p0Loc d)) ∗ (p1Loc d ↦{fullShare} m (p1Loc d))) := by
  rw [split_p0, split_p1, ← bigSep_sep', ← bigSep_sep', ← bigSep_sep']
  rfl
/-- and what it gives back. -/
theorem dn0_eq (d : Dev nD) : (bigSep Finset.univ fun c : Fin ((K (F := F)).nCore 0) => (P m).dn 0 d c)
    = iprop((bigSep Finset.univ fun c : Fin 2 => idxLoc d ↦{shareTok fullShare 2 c} m (idxLoc d)) ∗ (bigSep Finset.univ fun c : Fin 2 => srcLoc d ↦{shareTok fullShare 2 c} m (srcLoc d))
        ∗ (p0Loc d ↦{fullShare} partOf m d 0) ∗ (p1Loc d ↦{fullShare} partOf m d 1)) := by
  rw [split_p0, split_p1, ← bigSep_sep', ← bigSep_sep', ← bigSep_sep']
  rfl

/-! ## `@main` on the TensorCore -/

/-- The bound the waits of a TensorCore that has made its one SparseCore call are under. -/
abbrev bound : ℕ := 8 * SparseCore.Cfg.Blocks.fst 1 1 1

/-- The second call, between the arrays after the first and the arrays at the end. -/
def addCall : Pipeline.RegionSeg (pcfgs (F := F)) adm (pdats (mid m) bound adm) none defs₀ 𝒱₀ (K (F := F)).L (K (F := F)).lev 0 :=
  region (mid m) bound adm (fin m) (fun d => (added_eq (mid m) bound d).symm)
    (fun d r h => by unfold fin; exact Function.update_of_ne h _ _)

theorem addCall_pre (d : Dev nD) : (addCall m).pre d
    = iprop(((inLoc d ↦{fullShare} m (inLoc d)) ∗ (idxLoc d ↦{fullShare} m (idxLoc d)) ∗ (srcLoc d ↦{fullShare} m (srcLoc d))
        ∗ (p0Loc d ↦{fullShare} partOf m d 0) ∗ (p1Loc d ↦{fullShare} partOf m d 1) ∗ (outLoc d ↦{fullShare} m (outLoc d)))
      ∗ ∃ Ws, ⌜∀ p ∈ Ws, p ∈ below (F := F) d bound⌝ ∗ owes (d.tc : Thread nD τ) (0 : CellTallies nD τ sig (HIx 1)) Ws) := by
  show around bound (mid m) d = _
  unfold around
  rw [unscopedBufs_eq]
  rfl
theorem addCall_post (d : Dev nD) : (addCall m).post d
    = iprop(((inLoc d ↦{fullShare} m (inLoc d)) ∗ (idxLoc d ↦{fullShare} m (idxLoc d)) ∗ (srcLoc d ↦{fullShare} m (srcLoc d))
        ∗ (p0Loc d ↦{fullShare} partOf m d 0) ∗ (p1Loc d ↦{fullShare} partOf m d 1) ∗ (outLoc d ↦{fullShare} resultOf m d))
      ∗ ∃ Ws, ⌜∀ p ∈ Ws, p ∈ below (F := F) d bound⌝ ∗ owes (d.tc : Thread nD τ) (0 : CellTallies nD τ sig (HIx 1)) Ws) := by
  show around bound (fin m) d = _
  unfold around
  rw [unscopedBufs_eq]
  rfl

omit [FloatOps F] in
/-- After its one call the TensorCore owes nothing. -/
theorem owes_end (d : Dev nD) (Ws : Waits sig (HIx 1)) :
    (owes (SparseCore.T d) ((K (F := F)).Otc d ((0 : Fin 1).val + 1)) Ws : sProp 𝕄) = owes (d.tc : Thread nD τ) (0 : CellTallies nD τ sig (HIx 1)) Ws :=
  congrArg (fun O => (owes (SparseCore.T d) O Ws : sProp 𝕄)) ((K (F := F)).Otc_end d (Nat.le_refl 1))

/-- What `@main` leaves on device `d`: the arguments as they were, the result. -/
abbrev FIN (d : Dev nD) : sProp 𝕄 :=
  iprop((inLoc d ↦{fullShare} m (inLoc d)) ∗ (idxLoc d ↦{fullShare} m (idxLoc d)) ∗ (srcLoc d ↦{fullShare} m (srcLoc d)) ∗ (outLoc d ↦{fullShare} resultOf m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hin, Hi, Hs, H0, H1, Ho⟩, Hts, -⟩, HG⟩
  ihave Hi' := (pointsTo_toks_split (ℓ := idxLoc d) (S := Finset.univ) (f := m (idxLoc d)) fullShare 2) $$ Hi
  icases Hi' with ⟨Hid, Hi⟩
  ihave Hs' := (pointsTo_toks_split (ℓ := srcLoc d) (S := Finset.univ) (f := m (srcLoc d)) fullShare 2) $$ Hs
  icases Hs' with ⟨Hsd, Hs⟩
  iapply ((K (F := F)).wp_run (D (F := F)) 𝒱 (EH := EH) (P := P m) κ d 0)
  isplitr; · iexact Hctx
  isplitl [Hst]; · iexact Hst
  isplitl [Hi Hs H0 H1]
  · rw [st0_eq]
    isplitl [Hi]; · iexact Hi
    isplitl [Hs]; · iexact Hs
    isplitl [H0]; · iexact H0
    iexact H1
  iintro ⟨Hst, Hdn⟩
  ihave Hdn' := (Entails.of_eq (dn0_eq m d)) $$ Hdn
  icases Hdn' with ⟨Hi, Hs, H0, H1⟩
  ihave Hi' := (pointsTo_toks_join (ℓ := idxLoc d) (S := Finset.univ) (f := m (idxLoc d)) fullShare 2) $$ [Hi Hid]
  · isplitl [Hid]; · iexact Hid
    iexact Hi
  ihave Hs' := (pointsTo_toks_join (ℓ := srcLoc d) (S := Finset.univ) (f := m (srcLoc d)) fullShare 2) $$ [Hs Hsd]
  · isplitl [Hsd]; · iexact Hsd
    iexact Hs
  unfold SparseCore.Cfg.tcSt
  icases Hst with ⟨⟨%Ws, %hWs, HO⟩, Hrest⟩
  iapply ((K (F := F)).wp_liftProg (D (F := F)) 𝒱 (SparseCore.T d) Set.univ none (.op (.customCall (Pipeline.entry 0) ()) .ret) _)
  iapply ((addCall m).wp (pcfgs (F := F)) adm (pdats (mid m) bound adm) none cellOf_inj EP defs₀ 𝒱₀ (K (F := F)).L (K (F := F)).lev d none (fun u hu => nomatch hu) .ret _)
  isplitl [Hrest Hts]
  · iintro ⟨Hb, Hpost⟩
    ihave Hpost' := (Entails.of_eq (addCall_post m d)) $$ Hpost
    icases Hpost' with ⟨⟨Hin, Hi, Hs, -, -, Ho⟩, HO⟩
    icases HO with ⟨%Ws', %hWs', HO⟩
    rw [wp_ret]
    imodintro
    imodintro
    isplitl [HO Hrest]
    · isplitl [HO]
      · iexists Ws'
        isplitr
        · ipureintro; exact hWs'
        · rw [(K (F := F)).Otc_end d (Nat.le_refl 1 : 1 ≤ 1)]
          iexact HO
      · iexact Hrest
    isplitl [Hin Hi Hs Ho]
    · isplitl [Hin]; · iexact Hin
      isplitl [Hi]; · iexact Hi
      isplitl [Hs]; · iexact Hs
      iexact Ho
    isplitl [Hb]; · iexact Hb
    iexact Hts
  isplitl [Hb]; · iexact Hb
  isplitl [Hin Hi' Hs' H0 H1 Ho HO]
  · rw [addCall_pre]
    isplitl [Hin Hi' Hs' H0 H1 Ho]
    · isplitl [Hin]; · iexact Hin
      isplitl [Hi']; · iexact Hi'
      isplitl [Hs']; · iexact Hs'
      isplitl [H0]; · iexact H0
      isplitl [H1]; · iexact H1
      iexact Ho
    · iexists Ws
      isplitr
      · ipureintro; exact hWs
      · iapply (Entails.of_eq (owes_end d Ws)) $$ HO
  isplitr
  · iapply ((K (F := F)).ctx_levAts κ) $$ Hctx
  icases HG with ⟨HA, HB⟩
  isplitl [HA]; · iexact HA
  iexact HB

/-- What the memory holds then. -/
def fq (d : Dev nD) (s' : Phys nD τ sig (Elt F)) : Prop :=
  s'.mem.mem (inLoc d) = m (inLoc d) ∧ s'.mem.mem (idxLoc d) = m (idxLoc d) ∧ s'.mem.mem (srcLoc d) = m (srcLoc d) ∧ s'.mem.mem (outLoc d) = resultOf m d

/-- A whole array held at contents is at those contents in the memory; both are kept. -/
theorem holds_whole {ℓ : Loc nD τ sig} {f : Buf (Elt F) ℓ} {s' : Phys nD τ sig (Elt F)} {A B : sProp 𝕄} {q : Prop} (h : iprop(B ∗ A ∗ SI s') ⊢ (⌜q⌝ : sProp 𝕄)) :
    iprop(((ℓ ↦{fullShare} f) ∗ B) ∗ A ∗ SI s') ⊢ (⌜s'.mem.mem ℓ = f ∧ q⌝ : sProp 𝕄) := by
  iintro ⟨⟨Hp, HB⟩, HA, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  ihave H := h $$ [HB HA HSI]
  · isplitl [HB]; · iexact HB
    isplitl [HA]; · iexact HA
    iexact HSI
  icases H with %h2
  ipureintro
  exact ⟨funext fun i => h1 i (Finset.mem_univ i), h2⟩

theorem hfin (d : Dev nD) (s' : Phys nD τ sig (Elt F)) : iprop(FIN m d ∗ SI s') ⊢ (⌜fq m d s'⌝ : sProp 𝕄) := by
  have h0 : iprop((emp : sProp 𝕄) ∗ emp ∗ SI s') ⊢ (⌜True⌝ : sProp 𝕄) := by
    iintro -
    ipureintro
    trivial
  have h1 := holds_whole (ℓ := outLoc d) (f := resultOf m d) h0
  have h2 := holds_whole (ℓ := srcLoc d) (f := m (srcLoc d)) h1
  have h3 := holds_whole (ℓ := idxLoc d) (f := m (idxLoc d)) h2
  have h4 := holds_whole (ℓ := inLoc d) (f := m (inLoc d)) h3
  iintro ⟨⟨Hin, Hi, Hs, Ho⟩, HSI⟩
  ihave H := h4 $$ [Hin Hi Hs Ho HSI]
  · isplitr [HSI]
    · isplitl [Hin]; · iexact Hin
      isplitl [Hi]; · iexact Hi
      isplitl [Hs]; · iexact Hs
      isplitl [Ho]; · iexact Ho
      iempintro
    isplitr; · iempintro
    iexact HSI
  icases H with %h
  ipureintro
  exact ⟨h.1, h.2.1, h.2.2.1, h.2.2.2.1⟩

/-! ## The program's run -/

/-- On every device the arguments are as they were and the result is the sum of `input` and the two partial scatters; every
    semaphore counter is zero. -/
def QC : PUnit × MemSt nD τ sig (Elt F) → Prop := fun r =>
  (∀ d : Dev nD, r.2.mem (inLoc d) = m (inLoc d) ∧ r.2.mem (idxLoc d) = m (idxLoc d) ∧ r.2.mem (srcLoc d) = m (srcLoc d) ∧ r.2.mem (outLoc d) = resultOf m d)
    ∧ r.2.sem = fun _ => 0

theorem run_main [∀ e, Nonempty (Elt F e)] (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hr)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Proof.Scatter

end
-- ==== Proof.Fold.lean ====
/-
  The tile's accumulator at exact addition: after its steps each entry is the sum of the `src` elements whose index word
  names its row, in its column; and the kernel's result, the sum over all rows.
-/
module

public import proofs.«01_k».proof.Proof.Main
public import Idealize.ShloMosaic.PureOps.Ideal.Laws
public import Idealize.ShloMosaic.Lib.ValueIdx

@[expose] public section

noncomputable section

namespace Cert.Proof.Scatter

open Cert.KernelIdeal Cert.KernelIdeal.Gen
open Idealize.ShloMosaic

/-! ## One indexed store-with-add -/

/-- Adding one lane after the other: an entry gains the lanes that name it. -/
theorem foldl_add {ι κ : Type} [DecidableEq κ] (at_ : ι → κ) (v : ι → EReal) (j : κ) : ∀ (l : List ι) (g : κ → EReal),
    l.foldl (fun g k => fun j => if j = at_ k then g (at_ k) + v k else g j) g j = g j + (l.map fun k => if j = at_ k then v k else 0).sum
  | [], g => by simp
  | k :: l, g => by
    rw [List.foldl_cons, foldl_add at_ v j l, List.map_cons, List.sum_cons]
    by_cases h : j = at_ k
    · rw [if_pos h, if_pos h, ← h, add_assoc]
    · rw [if_neg h, if_neg h, zero_add]

theorem putStep_apply (g : S80000.Idx → EReal) (iv : IVec S16 32) (v : S16.Idx → EReal) (h : ∀ x, (iv x).toNat < 80000) (j : S80000.Idx) :
    putStep (F := Ideal) g iv v j = g j + ∑ k : Fin 16, if (j 0).val = (iv (Shape.ofLane k)).toNat then v (Shape.ofLane k) else 0 := by
  have hh : ∀ (a : Fin S80000.rank) x, ((![iv] : Fin 1 → IVec S16 32) a x).toNat < S80000.size a := fun a x => by
    match a with
    | 0 => exact h x
  unfold putStep
  rw [dif_pos hh]
  unfold storeIdx
  have e := foldl_add (fun k : Fin 16 => idxAt (s := S80000) ![iv] hh (Shape.ofLane k)) (fun k => v (Shape.ofLane k)) j (List.finRange 16) g
  refine Eq.trans ?_ (e.trans ?_)
  · refine congrFun (congrArg (fun f => List.foldl f g (List.finRange 16)) ?_) j
    funext g k j
    simp only [if_true]
    refine if_congr ?_ rfl rfl
    exact ⟨fun q => funext fun a => Fin.ext (q a), fun q a => by rw [q]⟩
  · rw [← Fin.sum_univ_def]
    refine congrArg (g j + ·) (Finset.sum_congr rfl fun k _ => if_congr ?_ rfl rfl)
    constructor
    · intro q; rw [q]; rfl
    · intro q
      funext a
      match a with
      | 0 => exact Fin.ext q

/-- Of sixteen lanes, two in each column. -/
theorem sum_lanes (G : ℕ → EReal) (c : ℕ) (hc : c < 8) : (∑ k : Fin 16, if k.val % 8 = c then G (k.val / 8) else 0) = G 0 + G 1 := by
  interval_cases c <;> simp [Fin.sum_univ_succ]

/-! ## The accumulator -/

/-- The element of `src` at a row and a column, where the index word there names row `n`; zero elsewhere. -/
def term (idx : S320000x128.Idx → BitVec 32) (src : S320000x128.Idx → EReal) (c n e : ℕ) : EReal :=
  if (idx (at2 e c)).toNat = n then src (at2 e c) else 0

theorem target_toNat (idx : S320000x128.Idx → BitVec 32) (hr : ∀ y, (idx y).toNat < 10000) (R C : ℕ) (x : S16.Idx) :
    (target idx R C x).toNat = (idx (at2 (R + (x 0).val / 8) (C + (x 0).val % 8))).toNat + (x 0).val % 8 * 10000 := by
  have h1 := hr (at2 (R + (x 0).val / 8) (C + (x 0).val % 8))
  have h2 : (x 0).val % 8 < 8 := Nat.mod_lt _ (by decide)
  unfold target lanes
  show (idx (at2 (R + (x 0).val / 8) (C + (x 0).val % 8)) + BitVec.ofNat 32 ((x 0).val % 8 * 10000)).toNat = _
  generalize idx (at2 (R + (x 0).val / 8) (C + (x 0).val % 8)) = w at h1 ⊢
  generalize (x 0).val % 8 = r at h2 ⊢
  rw [BitVec.toNat_add, BitVec.toNat_ofNat]
  omega

theorem accAt_slot (idx : S320000x128.Idx → BitVec 32) (hr : ∀ y, (idx y).toNat < 10000) (src : S320000x128.Idx → EReal) (R C k n : ℕ) (hk : k < 8) (hn : n < 10000) :
    ∀ t, accAt (F := Ideal) idx src R C t (slot k n) = ∑ e ∈ Finset.range (2 * t), term idx src (C + k) n (R + e)
  | 0 => by
    rw [Nat.mul_zero, Finset.range_zero, Finset.sum_empty]
    exact Ideal.ofBits_zero_f32
  | t + 1 => by
    have hlt : ∀ x, (target idx (R + 2 * t) C x).toNat < 80000 := fun x => by
      rw [target_toNat idx hr]
      have h1 := hr (at2 (R + 2 * t + (x 0).val / 8) (C + (x 0).val % 8))
      have h2 : (x 0).val % 8 < 8 := Nat.mod_lt _ (by decide)
      omega
    rw [show 2 * (t + 1) = 2 * t + 1 + 1 by omega, Finset.sum_range_succ, Finset.sum_range_succ]
    show putStep (F := Ideal) (accAt (F := Ideal) idx src R C t) (target idx (R + 2 * t) C) (lanes src (R + 2 * t) C) (slot k n) = _
    rw [putStep_apply _ _ _ hlt, accAt_slot idx hr src R C k n hk hn t, add_assoc]
    refine congrArg (_ + ·) ?_
    refine Eq.trans (Finset.sum_congr rfl fun l _ => ?_) (sum_lanes (fun r => term idx src (C + k) n (R + 2 * t + r)) k hk)
    rw [target_toNat idx hr]
    have hl : ((Shape.ofLane l : S16.Idx) 0).val = l.val := rfl
    have hs : ((slot k n) 0).val = k * 10000 + n := Nat.mod_eq_of_lt (by omega)
    have h1 := hr (at2 (R + 2 * t + l.val / 8) (C + l.val % 8))
    rw [hs, hl]
    unfold lanes term
    rw [hl]
    by_cases h : l.val % 8 = k
    · rw [if_pos h, h]
      rw [h] at h1
      exact if_congr (by omega) rfl rfl
    · rw [if_neg h, if_neg (by omega)]

/-! ## The result -/

variable (m : (ℓ : Loc nD τ sig) → Buf (Elt Ideal) ℓ)

/-- A half's partial scatter, at row `n` and column `c`. -/
theorem partOf_apply (hr : InRange m) (d : Dev nD) (h : ℕ) (n : Fin 10000) (c : Fin 128) :
    partOf m d h (ValueIdx.ix2 c n) = ∑ e ∈ Finset.range 160000, term (idxOf m d) (srcOf m d) c.val n.val (h * 160000 + e) := by
  unfold partOf partialT
  rw [accAt_slot (idxOf m d) (hr d) (srcOf m d) _ _ _ _ (Nat.mod_lt _ (by decide)) ((ValueIdx.ix2 c n) 1).isLt, Nat.div_add_mod']

/-- The result at row `n` and column `c`: `input` there, and over all the rows of `src` the elements whose index word is `n`. -/
theorem resultOf_apply (hr : InRange m) (d : Dev nD) (n : Fin 10000) (c : Fin 128) :
    resultOf m d (ValueIdx.ix2 n c) = (show S10000x128.Idx → EReal from m (inLoc d)) (ValueIdx.ix2 n c) + ∑ e ∈ Finset.range 320000, term (idxOf m d) (srcOf m d) c.val n.val e := by
  have hT : ∀ f : S128x10000.Idx → EReal, transpose S10000x128 [1, 0] (shapeCast S128x10000 f shapeCasts_S128x10000_S128x10000) transposes_S128x10000_p1_0_S10000x128 (ValueIdx.ix2 n c) = f (ValueIdx.ix2 c n) := by
    intro f
    rw [shapeCast_self]
    refine transpose_apply _ _ _ _ _ fun b => ?_
    match b with
    | 0 => rfl
    | 1 => rfl
  unfold resultOf k1_pay1
  show (_ + transpose _ _ _ _ _) + transpose _ _ _ _ _ = _
  rw [hT, hT, partOf_apply m hr, partOf_apply m hr, add_assoc, show 320000 = 160000 + 160000 from rfl, Finset.sum_range_add]
  simp only [Nat.zero_mul, Nat.one_mul, Nat.zero_add]

end Cert.Proof.Scatter

end
-- ==== Proof.Ref.lean ====
/-
  The reference's result at an index, over indices in range: `input` there plus the sum, over the rows of `src`, of the
  elements of that column whose index word names the row: what the kernel computes.
-/
module

public import proofs.«01_k».proof.Proof.Fold
public import proofs.«01_k».proof.Proof.Gen.ReferenceIdeal.Run
public import Idealize.ShloMosaic.Lib.Routing.OpsPair

@[expose] public section

noncomputable section

namespace Cert.Proof.Scatter

open Cert.ReferenceIdeal Cert.ReferenceIdeal.Gen
open Idealize.ShloMosaic

/-- An index word below zero counts from the axis's end. -/
abbrev wrapped (n : BitVec 32) (x : IVec S320000x128 32) : IVec S320000x128 32 :=
  select (cmpi .slt x (broadcastInDim S320000x128 ![] bcast_S_S320000x128 (constantI S_ 32 0#32)))
    (addi x (broadcastInDim S320000x128 ![] bcast_S_S320000x128 (constantI S_ 32 n))) x

/-- The table of index pairs: the row an element names, and its own column. -/
abbrev pairs (x : IVec S320000x128 32) : IVec S320000x128x2 32 :=
  concatenate S320000x128x2 2
    [⟨S320000x128x1, broadcastInDim S320000x128x1 ![0, 1] bcast_S320000x128_S320000x128x1_0_1 (wrapped 10000#32 x)⟩,
      ⟨S320000x128x1, broadcastInDim S320000x128x1 ![0, 1] bcast_S320000x128_S320000x128x1_0_1
        (wrapped 128#32 (broadcastInDim S320000x128 ![1] bcast_S128_S320000x128_1 (iotaInDim S128 32 0)))⟩]
    concatenates_S320000x128x1_S320000x128x1_S320000x128x2_d2

/-- The reference's result as its run states it. -/
def referenceOf (a : S10000x128.Idx → EReal) (x : IVec S320000x128 32) (s : S320000x128.Idx → EReal) : S10000x128.Idx → EReal :=
  Host.scatterAdd (F := Ideal) (φ := .f32) scatter_S10000x128_S320000x128x2_S320000x128_n_01_01_2 a (pairs x) s

theorem wrapped_apply (n : BitVec 32) (x : IVec S320000x128 32) (j : S320000x128.Idx) (h : (x j).toNat < 2 ^ 31) : wrapped n x j = x j :=
  Routing.wrap_of_lt (x j) _ h

theorem widen_apply (x : IVec S320000x128 32) (a : Fin 320000) (b : Fin 128) :
    broadcastInDim S320000x128x1 ![0, 1] bcast_S320000x128_S320000x128x1_0_1 x (ValueIdx.ix3 a b 0) = x (ValueIdx.ix2 a b) :=
  broadcastInDim_apply _ _ _ _ _ fun q => by
    match q with
    | 0 => rfl
    | 1 => rfl

theorem pairs_row (x : IVec S320000x128 32) (a : Fin 320000) (b : Fin 128) (h : (x (ValueIdx.ix2 a b)).toNat < 2 ^ 31) :
    pairs x (ValueIdx.ix3 a b 0) = x (ValueIdx.ix2 a b) := by
  refine (concatenate_pair_apply_left (t := S320000x128x2) (s₁ := S320000x128x1) (s₂ := S320000x128x1) 2 _ _ concatenates_S320000x128x1_S320000x128x1_S320000x128x2_d2 (ValueIdx.ix3 a b 0) rfl (ValueIdx.ix3 a b (0 : Fin 1)) fun q => ?_).trans ?_
  · match q with
    | 0 => rfl
    | 1 => rfl
    | 2 => rfl
  · rw [widen_apply, wrapped_apply _ _ _ h]

theorem pairs_col (x : IVec S320000x128 32) (a : Fin 320000) (b : Fin 128) : pairs x (ValueIdx.ix3 a b 1) = BitVec.ofNat 32 b.val := by
  have hb : broadcastInDim S320000x128 ![1] bcast_S128_S320000x128_1 (iotaInDim S128 32 0) (ValueIdx.ix2 a b) = BitVec.ofNat 32 b.val :=
    broadcastInDim_apply _ _ _ _ (ValueIdx.ix1 b) fun q => by
      match q with
      | 0 => rfl
  refine (concatenate_pair_apply_right (t := S320000x128x2) (s₁ := S320000x128x1) (s₂ := S320000x128x1) 2 _ _ concatenates_S320000x128x1_S320000x128x1_S320000x128x2_d2 (ValueIdx.ix3 a b 1) rfl rfl (ValueIdx.ix3 a b (0 : Fin 1)) (fun q hq => ?_) ?_).trans ?_
  · match q with
    | 0 => rfl
    | 1 => rfl
    | 2 => exact absurd rfl hq
  · rfl
  · rw [widen_apply, wrapped_apply, hb]
    rw [hb, BitVec.toNat_ofNat]
    have := b.isLt
    omega

/-- The reference at row `n` and column `c`. -/
theorem referenceOf_apply (a : S10000x128.Idx → EReal) (x : IVec S320000x128 32) (s : S320000x128.Idx → EReal) (hr : ∀ y, (x y).toNat < 10000)
    (n : Fin 10000) (c : Fin 128) :
    referenceOf a x s (ValueIdx.ix2 n c) = a (ValueIdx.ix2 n c) + ∑ e ∈ Finset.range 320000, term x s c.val n.val e := by
  show a (ValueIdx.ix2 n c) + ∑ j ∈ Finset.univ.filter (fun j => ScatterDims.resultIdx? scatter_S10000x128_S320000x128x2_S320000x128_n_01_01_2 j (pairs x) = some (ValueIdx.ix2 n c)), s j = _
  refine congrArg (_ + ·) ?_
  have hland : ∀ j : S320000x128.Idx, ScatterDims.resultIdx? scatter_S10000x128_S320000x128x2_S320000x128_n_01_01_2 j (pairs x) = some (ValueIdx.ix2 n c)
      ↔ (x j).toNat = n.val ∧ (j 1).val = c.val := by
    intro j
    obtain ⟨p, q, rfl⟩ : ∃ (p : Fin 320000) (q : Fin 128), j = ValueIdx.ix2 p q := ⟨j 0, j 1, ValueIdx.eq_ix2 j⟩
    have h1 := hr (ValueIdx.ix2 p q)
    refine (Routing.scatter_lands2 _ rfl rfl rfl (pairs x) p q n c).trans ?_
    rw [pairs_row x p q (by omega), pairs_col, WordCmp.toInt_eq_toNat_of_lt_half (by omega), WordCmp.toInt_ofNat_of_lt (by have := q.isLt; omega)]
    show _ ↔ _ ∧ q.val = c.val
    omega
  unfold term
  rw [← Finset.sum_filter]
  refine Finset.sum_bij' (fun j _ => (j 0).val) (fun e _ => at2 e c.val) ?_ ?_ ?_ ?_ ?_
  · intro j hj
    obtain ⟨h1, h2⟩ := (hland j).1 (Finset.mem_filter.1 hj).2
    refine Finset.mem_filter.2 ⟨Finset.mem_range.2 (j 0).isLt, ?_⟩
    rw [← at2_eq j rfl h2]
    exact h1
  · intro e he
    obtain ⟨h1, h2⟩ := Finset.mem_filter.1 he
    exact Finset.mem_filter.2 ⟨Finset.mem_univ _, (hland _).2 ⟨h2, at2_one e c.val c.isLt⟩⟩
  · intro j hj
    exact (at2_eq j rfl ((hland j).1 (Finset.mem_filter.1 hj).2).2).symm
  · intro e he
    exact at2_zero e c.val (Finset.mem_range.1 (Finset.mem_filter.1 he).1)
  · intro j hj
    exact congrArg s (at2_eq j rfl ((hland j).1 (Finset.mem_filter.1 hj).2).2)

/-- The kernel's result is the reference's. -/
theorem result_eq (m : (ℓ : Loc Cert.KernelIdeal.nD Cert.KernelIdeal.τ Cert.KernelIdeal.sig) → Buf (Elt Ideal) ℓ) (hr : InRange m) (d : Dev Cert.KernelIdeal.nD) :
    resultOf m d = referenceOf (m (inLoc d)) (idxOf m d) (srcOf m d) := by
  funext j
  obtain ⟨n, c, rfl⟩ : ∃ (n : Fin 10000) (c : Fin 128), j = ValueIdx.ix2 n c := ⟨j 0, j 1, ValueIdx.eq_ix2 j⟩
  exact (resultOf_apply m hr d n c).trans (referenceOf_apply _ _ _ (hr d) n c).symm

end Cert.Proof.Scatter

end
-- ==== Proof.Claims.lean ====
/-
  The claims, from the run of the whole program and the reference's run: the precondition puts every index word in
  range, each program keeps its arguments and ends quiescent, and the two results are one array.
-/
module

public import proofs.«01_k».proof.Defs
public import proofs.«01_k».proof.Proof.Gen.Kernel
public import proofs.«01_k».proof.Proof.Gen.Pre_in_range
public import proofs.«01_k».proof.Proof.Main
public import proofs.«01_k».proof.Proof.Ref
public import Idealize.ShloMosaic.Lib.ReduceAll

@[expose] public section

noncomputable section

namespace Cert.Proof.Scatter

open Idealize.ShloMosaic Idealize.SL.Sem

/-- What the precondition's two comparisons say of one word: read unsigned, it is below the number of rows. -/
theorem word_in_range (v : BitVec 32) (e : IntOp.andi (IntOp.cmpi .sge v 0#32) (IntOp.cmpi .slt v 10000#32) = 1#1) : v.toNat < 10000 := by
  obtain ⟨h0, h1⟩ := IntOp.andi_eq_one.1 e
  have h2 := IntOp.cmpi_sge.1 h0
  have h3 := IntOp.cmpi_slt.1 h1
  have h4 : (0#32).toInt = 0 := by decide
  have h5 : (10000#32).toInt = 10000 := by decide
  have h6 := BitVec.toInt_eq_toNat_cond v
  rw [h4] at h2
  rw [h5] at h3
  omega

/-- The precondition of one device's arrays puts each index word in range. -/
theorem words_in_range {F : FTy → Type} [FloatOps F] (a : FVec F Cert.Pre_in_range.S10000x128 .f32) (x : IVec Cert.Pre_in_range.S320000x128 32)
    (s : FVec F Cert.Pre_in_range.S320000x128 .f32) (e : Cert.Pre_in_range.fn (F := F) a x s = fun _ => 1#1) (y : Cert.Pre_in_range.S320000x128.Idx) :
    (x y).toNat < 10000 :=
  haveI : Subsingleton Cert.Pre_in_range.S_.Idx := ⟨fun _ _ => funext fun b => b.elim0⟩
  word_in_range (x y) (Host.reduce_andi_all _ _ _ _ (fun b => b.elim0) (congrFun e _) y)

/-- The kernel over any float values keeps its arguments and ends with every counter zero. -/
theorem run_frame {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (hr : InRange m) :
    θ_run (Cert.KernelIdeal.defs (F := F)) (Cert.KernelIdeal.threads (F := F)) ⟨m, fun _ => 0, ρ⟩ fun r =>
      (∀ d : Dev Cert.KernelIdeal.nD, r.2.mem (inLoc d) = m (inLoc d) ∧ r.2.mem (idxLoc d) = m (idxLoc d) ∧ r.2.mem (srcLoc d) = m (srcLoc d))
        ∧ r.2.sem = fun _ => 0 :=
  (θ_run _ _ _).mono (fun _ h => ⟨fun c => ⟨(h.1 c).1, (h.1 c).2.1, (h.1 c).2.2.1⟩, h.2⟩) (run_main m ρ hr)

/-- The two printings of the kernel have one body for each processor and label. -/
theorem bodies_eq {F : FTy → Type} [FloatOps F] : Cert.Kernel.defs₀ (F := F) = Cert.KernelIdeal.defs₀ := by
  funext p ℓ a
  cases p with
  | tc => match ℓ with
    | 0 => rfl
    | 1 => rfl
  | scScalar => match ℓ with
    | 0 => rfl
    | 1 => rfl
  | scVector => match ℓ with
    | 0 => rfl
    | 1 => rfl

/-- So they have one body table. -/
theorem tables_eq {F : FTy → Type} [FloatOps F] : Cert.Kernel.defs (F := F) = Cert.KernelIdeal.defs :=
  congrArg (fun t => Cert.KernelIdeal.sc.defs (Pipeline.defs Cert.KernelIdeal.pcfgs t)) bodies_eq

/-- The kernel as certified at the hardware's words. -/
theorem frame_kernel : Cert.quiescent_Kernel := fun m ρ hp => by
  have h := run_frame (F := Bits) m ρ fun d => words_in_range _ _ _ (hp d)
  rw [← tables_eq] at h
  exact h

/-- The kernel at exact values. -/
theorem frame_kernelIdeal : Cert.quiescent_KernelIdeal := fun m ρ hp =>
  run_frame (F := Ideal) m ρ fun d => words_in_range _ _ _ (hp d)

/-- The reference keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference under the precondition: it needs none. -/
theorem frame_reference_in_range : Cert.quiescent_ReferenceIdeal_pre_in_range := fun m ρ _ =>
  frame_reference m ρ trivial

/-- The kernel's result is the reference's, at exact values. -/
theorem algebraic : Cert.algebraic_KernelIdeal_ReferenceIdeal := fun m ρ m' ρ' hp hm =>
  have hr : InRange m := fun d => words_in_range _ _ _ (hp d)
  ⟨fun c => resultOf m c,
    (θ_run (Cert.KernelIdeal.defs (F := Ideal)) _ _).mono
      (fun _ h c => ⟨(h.1 c).2.2.2, (h.1 c).1, (h.1 c).2.1, (h.1 c).2.2.1⟩) (run_main (F := Ideal) m ρ hr),
    (θ_run Cert.ReferenceIdeal.defs _ _).mono
      (fun _ h c => ⟨(h c).1.trans (by
        obtain ⟨e0, e1, e2⟩ := hm c
        rw [e0, e1, e2]
        exact (result_eq m hr c).symm), (h c).2⟩) (Cert.ReferenceIdeal.Value.run (F := Ideal) m' ρ')⟩

end Cert.Proof.Scatter

end
-- ==== Proof.lean ====
/-
  The proof of `Cert.Claim`: both printings of the kernel run, keep their arguments and end quiescent when every index is
  in range; so does the reference, in range or not; the ideal printing rewrote nothing; and at exact values the kernel's result is the
  reference's. Each conjunct is proved in Proof/Claims.lean, from the run of the whole kernel (Proof/Main.lean) and
  the equation of the two results (Proof/Ref.lean).
-/
module

public import proofs.«01_k».proof.Defs
public import proofs.«01_k».proof.Proof.Claims
public import Idealize.ShloMosaic.Adequacy
public import Idealize.ShloMosaic.Init

@[expose] public section

noncomputable section

namespace Cert.Proof

open Cert.Proof.Scatter

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
